-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S2048 : Shape := ⟨1, ![2048]⟩
abbrev S2048x3 : Shape := ⟨2, ![2048, 3]⟩
abbrev S2048x1x3 : Shape := ⟨3, ![2048, 1, 3]⟩
abbrev S1x2048x3 : Shape := ⟨3, ![1, 2048, 3]⟩
abbrev S2048x2048x3 : Shape := ⟨3, ![2048, 2048, 3]⟩
abbrev S_ : Shape := ⟨0, ![]⟩
abbrev S2048x2048 : Shape := ⟨2, ![2048, 2048]⟩
abbrev S2048x1 : Shape := ⟨2, ![2048, 1]⟩
abbrev S1x2048 : Shape := ⟨2, ![1, 2048]⟩

class Facts : Prop where
  bcast_S2048x3_S2048x1x3_0_2 : S2048x3.BroadcastsInDim S2048x1x3 (![0, 2] : Fin 2 → Fin S2048x1x3.rank)
  bcast_S2048x3_S1x2048x3_1_2 : S2048x3.BroadcastsInDim S1x2048x3 (![1, 2] : Fin 2 → Fin S1x2048x3.rank)
  bcast_S2048x1x3_S2048x2048x3_0_1_2 : S2048x1x3.BroadcastsInDim S2048x2048x3 (![0, 1, 2] : Fin 3 → Fin S2048x2048x3.rank)
  bcast_S1x2048x3_S2048x2048x3_0_1_2 : S1x2048x3.BroadcastsInDim S2048x2048x3 (![0, 1, 2] : Fin 3 → Fin S2048x2048x3.rank)
  reducesTo_S2048x2048x3_S2048x2048_d2 : S2048x2048x3.ReducesTo [2] S2048x2048
  h_S_ : 0 < S_.numel
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)

variable [Facts]

def fn {F : FTy → Type} [FloatOps F] (main_arg0 : FVec F S2048 .f32) (main_arg1 : FVec F S2048x3 .f32) : IVec S2048x2048 1 :=
  let main_v0 : FVec F S2048x1x3 .f32 := broadcastInDim S2048x1x3 ![0, 2] bcast_S2048x3_S2048x1x3_0_2 main_arg1
  let main_v1 : FVec F S1x2048x3 .f32 := broadcastInDim S1x2048x3 ![1, 2] bcast_S2048x3_S1x2048x3_1_2 main_arg1
  let main_v2 : FVec F S2048x2048x3 .f32 := broadcastInDim S2048x2048x3 ![0, 1, 2] bcast_S2048x1x3_S2048x2048x3_0_1_2 main_v0
  let main_v3 : FVec F S2048x2048x3 .f32 := broadcastInDim S2048x2048x3 ![0, 1, 2] bcast_S1x2048x3_S2048x2048x3_0_1_2 main_v1
  let main_v4 : FVec F S2048x2048x3 .f32 := subf main_v2 main_v3
  let main_v5 : FVec F S2048x2048x3 .f32 := mulf main_v4 main_v4
  let main_cst : FVec F S_ .f32 := constant S_ .f32 0x00000000#32
  let main_v6 : FVec F S2048x2048 .f32 := (fun x v => Host.reduceAdd x v reducesTo_S2048x2048x3_S2048x2048_d2 h_S_) main_v5 main_cst
  let main_v7 : FVec F S2048x1 .f32 := broadcastInDim S2048x1 ![0] bcast_S2048_S2048x1_0 main_arg0
  let main_v8 : FVec F S1x2048 .f32 := broadcastInDim S1x2048 ![1] bcast_S2048_S1x2048_1 main_arg0
  let main_v9 : FVec F S2048x2048 .f32 := broadcastInDim S2048x2048 ![0, 1] bcast_S2048x1_S2048x2048_0_1 main_v7
  let main_v10 : FVec F S2048x2048 .f32 := broadcastInDim S2048x2048 ![0, 1] bcast_S1x2048_S2048x2048_0_1 main_v8
  let main_v11 : FVec F S2048x2048 .f32 := mulf main_v9 main_v10
  let main_v12 : IVec S2048x2048 32 := iotaInDim S2048x2048 32 0
  let main_v13 : IVec S2048x2048 32 := iotaInDim S2048x2048 32 1
  let main_cst_0 : FVec F S_ .f32 := constant S_ .f32 0x0DA24260#32
  let main_v14 : FVec F S2048x2048 .f32 := broadcastInDim S2048x2048 ![] bcast_S_S2048x2048 main_cst_0
  let main_v15 : IVec S2048x2048 1 := cmpf .oge main_v6 main_v14
  let main_cst_1 : FVec F S_ .f32 := constant S_ .f32 0x00000000#32
  let main_v16 : FVec F S2048x2048 .f32 := broadcastInDim S2048x2048 ![] bcast_S_S2048x2048 main_cst_1
  let main_v17 : IVec S2048x2048 1 := cmpf .oeq main_v11 main_v16
  let main_v18 : IVec S2048x2048 1 := ori main_v15 main_v17
  let main_v19 : IVec S2048x2048 1 := cmpi .sle main_v13 main_v12
  let main_v20 : IVec S2048x2048 1 := ori main_v18 main_v19
  main_v20
-- ==== Kernel.lean ====
abbrev S2048 : Shape := ⟨1, ![2048]⟩
abbrev S2048x3 : Shape := ⟨2, ![2048, 3]⟩
abbrev S10 : Shape := ⟨1, ![10]⟩
abbrev S2048x1 : Shape := ⟨2, ![2048, 1]⟩
abbrev S2048x4 : Shape := ⟨2, ![2048, 4]⟩
abbrev S4x2048 : Shape := ⟨2, ![4, 2048]⟩
abbrev S1x1 : Shape := ⟨2, ![1, 1]⟩
abbrev S_ : Shape := ⟨0, ![]⟩
abbrev S512x4 : Shape := ⟨2, ![512, 4]⟩
abbrev S1 : Shape := ⟨1, ![1]⟩
abbrev S4x512 : Shape := ⟨2, ![4, 512]⟩
abbrev S512x1 : Shape := ⟨2, ![512, 1]⟩
abbrev S1x512 : Shape := ⟨2, ![1, 512]⟩
abbrev S512x512 : Shape := ⟨2, ![512, 512]⟩
abbrev S1x512x512 : Shape := ⟨3, ![1, 512, 512]⟩
abbrev S1x1x1 : Shape := ⟨3, ![1, 1, 1]⟩

abbrev nBuf : Space → Nat
  | .hbm => 7
  | .vmem => 5
  | .smem => 2
  | _ => 0

abbrev bufTy : (tb : Table) → Fin (tcTables nBuf tb) → BufTy
  | .hbm, ⟨0, _⟩ => ⟨S2048, .f32⟩
  | .hbm, ⟨1, _⟩ => ⟨S2048x3, .f32⟩
  | .hbm, ⟨2, _⟩ => ⟨S2048x1, .f32⟩
  | .hbm, ⟨3, _⟩ => ⟨S2048x4, .f32⟩
  | .hbm, ⟨4, _⟩ => ⟨S4x2048, .f32⟩
  | .hbm, ⟨5, _⟩ => ⟨S1x1, .f32⟩
  | .hbm, ⟨6, _⟩ => ⟨S_, .f32⟩
  | .local _ .vmem, ⟨0, _⟩ => ⟨S512x4, .f32⟩
  | .local _ .vmem, ⟨1, _⟩ => ⟨S512x4, .f32⟩
  | .local _ .vmem, ⟨2, _⟩ => ⟨S4x512, .f32⟩
  | .local _ .vmem, ⟨3, _⟩ => ⟨S4x512, .f32⟩
  | .local _ .vmem, ⟨4, _⟩ => ⟨S1x1, .f32⟩
  | .local _ .smem, ⟨0, _⟩ => ⟨S10, .i32⟩
  | .local _ .smem, ⟨1, _⟩ => ⟨S10, .i32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_v0 : Ref sig .tc := ⟨.hbm, 6, rfl⟩
abbrev main_call0_c : Ref sig .tc := ⟨.smem, 0, rfl⟩
abbrev main_call0_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![10], ![false]⟩

abbrev pre0 : Pipeline.Prefetch sig := ⟨2, ![main_call0_c.idx, main_call0_c_0.idx], fun | 0 => main_call0_c.names | 1 => main_call0_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_3 : BitVec 32 := 0#32
  let v10 : BitVec 1 := Scalar.cmpi .ne v9 c0_i32_3
  v10

def k0_cond2 (v1 : BitVec 32) (v3 : BitVec 32) : BitVec 1 :=
  let v11 : BitVec 1 := Scalar.cmpi .eq v1 v3
  let v12 : BitVec 32 := Scalar.extui v11
  let c0_i32_4 : BitVec 32 := 0#32
  let v13 : BitVec 1 := Scalar.cmpi .ne v12 c0_i32_4
  v13

def k0_cond3 (v1 : BitVec 32) (v3 : BitVec 32) : BitVec 1 :=
  let v14 : BitVec 1 := Scalar.cmpi .ne v1 v3
  let v15 : BitVec 32 := Scalar.extui v14
  let c0_i32_5 : BitVec 32 := 0#32
  let v16 : BitVec 1 := Scalar.cmpi .ne v15 c0_i32_5
  v16

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S10) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S10) ![v0.toNat] S1.size (k0_off1_inb i)) numel1_S1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S2048 : Shape := ⟨1, ![2048]⟩
abbrev S2048x3 : Shape := ⟨2, ![2048, 3]⟩
abbrev S2048x1x3 : Shape := ⟨3, ![2048, 1, 3]⟩
abbrev S1x2048x3 : Shape := ⟨3, ![1, 2048, 3]⟩
abbrev S2048x2048x3 : Shape := ⟨3, ![2048, 2048, 3]⟩
abbrev S_ : Shape := ⟨0, ![]⟩
abbrev S2048x2048 : Shape := ⟨2, ![2048, 2048]⟩
abbrev S2048x1 : Shape := ⟨2, ![2048, 1]⟩
abbrev S1x2048 : Shape := ⟨2, ![1, 2048]⟩

abbrev nBuf : Space → Nat
  | .hbm => 103
  | .vmem => 0
  | .smem => 0
  | _ => 0

abbrev bufTy : (tb : Table) → Fin (tcTables nBuf tb) → BufTy
  | .hbm, ⟨0, _⟩ => ⟨S2048, .f32⟩
  | .hbm, ⟨1, _⟩ => ⟨S2048x3, .f32⟩
  | .hbm, ⟨2, _⟩ => ⟨S2048x1x3, .f32⟩
  | .hbm, ⟨3, _⟩ => ⟨S1x2048x3, .f32⟩
  | .hbm, ⟨4, _⟩ => ⟨S2048x2048x3, .f32⟩
  | .hbm, ⟨5, _⟩ => ⟨S2048x2048x3, .f32⟩
  | .hbm, ⟨6, _⟩ => ⟨S2048x2048x3, .f32⟩
  | .hbm, ⟨7, _⟩ => ⟨S2048x2048x3, .f32⟩
  | .hbm, ⟨8, _⟩ => ⟨S_, .f32⟩
  | .hbm, ⟨9, _⟩ => ⟨S2048x2048, .f32⟩
  | .hbm, ⟨10, _⟩ => ⟨S_, .i1⟩
  | .hbm, ⟨11, _⟩ => ⟨S2048x2048, .i1⟩
  | .hbm, ⟨12, _⟩ => ⟨S2048x2048, .i32⟩
  | .hbm, ⟨13, _⟩ => ⟨S_, .i32⟩
  | .hbm, ⟨14, _⟩ => ⟨S2048x2048, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S_, .i1⟩
  | .hbm, ⟨19, _⟩ => ⟨S2048x2048, .i1⟩
  | .hbm, ⟨20, _⟩ => ⟨S2048x2048, .i1⟩
  | .hbm, ⟨21, _⟩ => ⟨S_, .f32⟩
  | .hbm, ⟨22, _⟩ => ⟨S2048x2048, .f32⟩
  | .hbm, ⟨23, _⟩ => ⟨S2048x2048, .i1⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S2048x2048, .f32⟩
  | .hbm, ⟨41, _⟩ => ⟨S2048x2048, .i1⟩
  | .hbm, ⟨42, _⟩ => ⟨S_, .f32⟩
  | .hbm, ⟨43, _⟩ => ⟨S_, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048x2048, .f32⟩
  | .hbm, ⟨48, _⟩ => ⟨S2048x2048, .i1⟩
  | .hbm, ⟨49, _⟩ => ⟨S_, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S_, .f32⟩
  | .hbm, ⟨55, _⟩ => ⟨S2048x2048, .f32⟩
  | .hbm, ⟨56, _⟩ => ⟨S2048x2048, .f32⟩
  | .hbm, ⟨57, _⟩ => ⟨S_, .f32⟩
  | .hbm, ⟨58, _⟩ => ⟨S2048x2048, .f32⟩
  | .hbm, ⟨59, _⟩ => ⟨S2048x2048, .i1⟩
  | .hbm, ⟨60, _⟩ => ⟨S_, .f32⟩
  | .hbm, ⟨61, _⟩ => ⟨S_, .f32⟩
  | .hbm, ⟨62, _⟩ => ⟨S2048x2048, .f32⟩
  | .hbm, ⟨63, _⟩ => ⟨S2048x2048, .f32⟩
  | .hbm, ⟨64, _⟩ => ⟨S_, .f32⟩
  | .hbm, ⟨65, _⟩ => ⟨S2048x2048, .f32⟩
  | .hbm, ⟨66, _⟩ => ⟨S2048x2048, .i1⟩
  | .hbm, ⟨67, _⟩ => ⟨S_, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S_, .f32⟩
  | .hbm, ⟨72, _⟩ => ⟨S_, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S_, .f32⟩
  | .hbm, ⟨79, _⟩ => ⟨S2048x2048, .f32⟩
  | .hbm, ⟨80, _⟩ => ⟨S2048x2048, .f32⟩
  | .hbm, ⟨81, _⟩ => ⟨S2048x2048, .f32⟩
  | .hbm, ⟨82, _⟩ => ⟨S2048x2048, .f32⟩
  | .hbm, ⟨83, _⟩ => ⟨S_, .f32⟩
  | .hbm, ⟨84, _⟩ => ⟨S2048x2048, .f32⟩
  | .hbm, ⟨85, _⟩ => ⟨S2048x2048, .f32⟩
  | .hbm, ⟨86, _⟩ => ⟨S2048x2048, .f32⟩
  | .hbm, ⟨87, _⟩ => ⟨S2048x1, .f32⟩
  | .hbm, ⟨88, _⟩ => ⟨S1x2048, .f32⟩
  | .hbm, ⟨89, _⟩ => ⟨S2048x2048, .f32⟩
  | .hbm, ⟨90, _⟩ => ⟨S2048x2048, .f32⟩
  | .hbm, ⟨91, _⟩ => ⟨S2048x2048, .f32⟩
  | .hbm, ⟨92, _⟩ => ⟨S_, .f32⟩
  | .hbm, ⟨93, _⟩ => ⟨S2048x2048, .f32⟩
  | .hbm, ⟨94, _⟩ => ⟨S2048x2048, .f32⟩
  | .hbm, ⟨95, _⟩ => ⟨S2048x2048, .f32⟩
  | .hbm, ⟨96, _⟩ => ⟨S2048x2048, .f32⟩
  | .hbm, ⟨97, _⟩ => ⟨S_, .f32⟩
  | .hbm, ⟨98, _⟩ => ⟨S_, .f32⟩
  | .hbm, ⟨99, _⟩ => ⟨S2048x2048, .f32⟩
  | .hbm, ⟨100, _⟩ => ⟨S2048x2048, .f32⟩
  | .hbm, ⟨101, _⟩ => ⟨S_, .f32⟩
  | .hbm, ⟨102, _⟩ => ⟨S_, .f32⟩
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_0 : Ref sig .tc := ⟨.hbm, 18, rfl⟩
abbrev main_call0_v5 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_call2_v0 : Ref sig .tc := ⟨.hbm, 43, rfl⟩
abbrev main_call2_v1 : Ref sig .tc := ⟨.hbm, 44, rfl⟩
abbrev main_v22 : Ref sig .tc := ⟨.hbm, 45, rfl⟩
abbrev main_cst_7 : Ref sig .tc := ⟨.hbm, 46, rfl⟩
abbrev main_v23 : Ref sig .tc := ⟨.hbm, 47, rfl⟩
abbrev main_v24 : Ref sig .tc := ⟨.hbm, 48, rfl⟩
abbrev main_cst_8 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_9 : Ref sig .tc := ⟨.hbm, 53, rfl⟩
abbrev main_call3_v0 : Ref sig .tc := ⟨.hbm, 54, rfl⟩
abbrev main_call3_v1 : Ref sig .tc := ⟨.hbm, 55, rfl⟩
abbrev main_v28 : Ref sig .tc := ⟨.hbm, 56, rfl⟩
abbrev main_cst_10 : Ref sig .tc := ⟨.hbm, 57, rfl⟩
abbrev main_v29 : Ref sig .tc := ⟨.hbm, 58, rfl⟩
abbrev main_v30 : Ref sig .tc := ⟨.hbm, 59, rfl⟩
abbrev main_cst_11 : Ref sig .tc := ⟨.hbm, 60, rfl⟩
abbrev main_call4_v0 : Ref sig .tc := ⟨.hbm, 61, rfl⟩
abbrev main_call4_v1 : Ref sig .tc := ⟨.hbm, 62, rfl⟩
abbrev main_v31 : Ref sig .tc := ⟨.hbm, 63, rfl⟩
abbrev main_cst_12 : Ref sig .tc := ⟨.hbm, 64, rfl⟩
abbrev main_v32 : Ref sig .tc := ⟨.hbm, 65, rfl⟩
abbrev main_v33 : Ref sig .tc := ⟨.hbm, 66, rfl⟩
abbrev main_cst_13 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_14 : Ref sig .tc := ⟨.hbm, 71, rfl⟩
abbrev main_call5_v0 : Ref sig .tc := ⟨.hbm, 72, rfl⟩
abbrev main_call5_v1 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_15 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_16 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_17 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst_18 : Ref sig .tc := ⟨.hbm, 97, rfl⟩
abbrev main_call6_v0 : Ref sig .tc := ⟨.hbm, 98, rfl⟩
abbrev main_call6_v1 : Ref sig .tc := ⟨.hbm, 99, rfl⟩
abbrev main_v57 : Ref sig .tc := ⟨.hbm, 100, rfl⟩
abbrev main_cst_19 : Ref sig .tc := ⟨.hbm, 101, rfl⟩
abbrev main_v58 : Ref sig .tc := ⟨.hbm, 102, rfl⟩

abbrev nD : Nat := 1
abbrev τ : Topo := Topo.v7x

variable {F : FTy → Type} [FloatOps F]
-- ==== Proof.Ideal.Entry.lean ====
/- What the grid call of the idealized kernel starts from: the buffers the operations before it fill, the two
   block tables they write, and that every block the tables name lies inside its array. -/
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

noncomputable section

namespace Cert.KernelIdeal.Energy

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers at the call -/

/-- Device `c`'s buffers once the operations before the call have run. -/
abbrev atCall (c : Dev nD) : Valuation τ sig (Elt F) := StableHlo.after (List.flatten [hostOps0]) (fun b => m (c, b))

/-- One of those buffers, by its name on the core. -/
abbrev bufAt (c : Dev nD) (b : Ref sig .tc) : Buf (Elt F) ((c : Thread nD τ).loc b) := atCall m c (Proc.devRef .tc b)

/-- The operations before the call allocate nothing. -/
theorem before_fresh : (hostOps0 : List (HloOp τ sig (Elt F))).Forall fun op => op.fresh = ∅ := by
  simp only [List.Forall]; repeat' constructor

/-- The operation after the call allocates nothing. -/
theorem later_fresh : (hostOps1 : List (HloOp τ sig (Elt F))).Forall fun op => op.fresh = ∅ := by
  simp only [List.Forall]; rfl

set_option maxHeartbeats 800000 in
/-- The whole program is: the operations before the call, the call, the reshape after it. -/
theorem program_around (𝒱₀ : Variants) : Pipeline.HMainPK (Ix := Unit) (Name := ℕ) (U := UR sig nD τ) (Lvl := ℕ) pcfgs 0 defs₀ 𝒱₀ m (main (F := F))
    (bufAt m) (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact before_fresh) main_chain

/-- The reshape touches only the call's result and the program's result. -/
theorem later_sub : ∀ ops ∈ ([hostOps1] : List (List (HloOp τ sig (Elt F)))), ∀ op ∈ ops,
    op.bufs ⊆ Pipeline.tailRefs sig pre0 spec0 := by
  intro ops hops op hop
  obtain rfl := List.mem_singleton.mp hops
  obtain rfl := List.mem_singleton.mp hop
  have hx : (main_call0_v3 : Ref sig .tc) ∈ Finset.univ.image (Pipeline.arrRef spec0) ∪ Pipeline.restRefsP sig pre0 spec0 := by decide
  have hy : (main_v0 : Ref sig .tc) ∈ Finset.univ.image (Pipeline.arrRef spec0) ∪ Pipeline.restRefsP sig pre0 spec0 := by decide
  intro b hb
  rcases Finset.mem_insert.mp hb with rfl | hb
  · exact Finset.mem_map_of_mem _ hx
  · obtain rfl := Finset.mem_singleton.mp hb
    exact Finset.mem_map_of_mem _ hy

/-- The reshape after the call allocates nothing. -/
theorem later_allocs : ∀ ops ∈ ([hostOps1] : List (List (HloOp τ sig (Elt F)))), ∀ op ∈ ops, op.fresh = ∅ := by
  intro ops hops op hop
  obtain rfl := List.mem_singleton.mp hops
  exact List.forall_iff_forall_mem.mp later_fresh op hop

/-- The reshape writes none of the call's arrays. -/
theorem later_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  obtain rfl := List.mem_singleton.mp hop
  intro w
  fin_cases w <;> simp only [StableHlo.reshape_writes, Finset.mem_singleton] <;> exact StableHlo.devRef_ne_of_ne (by decide)

/-! ## The block tables -/

/-- The two tables: row blocks 0 0 0 0 1 1 1 2 2 3, column blocks 0 1 2 3 1 2 3 2 3 3. -/
def tables : pre0.Contents (Elt F) := fun
  | ⟨0, _⟩ => fun i => lit0 (S10.rowMajor i)
  | ⟨1, _⟩ => fun i => lit1 (S10.rowMajor i)

/-- The buffers hold those two tables when the call starts. -/
theorem bufAt_tables (c : Dev nD) (k : Fin 2) : bufAt m c (pre0.ref k) = tables k := by
  fin_cases k
  · show StableHlo.after hostOps0 _ (Proc.devRef .tc main_call0_c) = _
    after_results; rfl
  · show StableHlo.after hostOps0 _ (Proc.devRef .tc main_call0_c_0) = _
    after_results; rfl

/-- Row block of point `i`. -/
abbrev rowBlk (i : grid0.Coords) : BitVec 32 := lit0 (i 0)
/-- Column block of point `i`. -/
abbrev colBlk (i : grid0.Coords) : BitVec 32 := lit1 (i 0)

/-- The word a point reads of a table, the point's own. -/
abbrev wordIdx (i : grid0.Coords) : S10.Idx := (Rect.unit (s := S10) (k0_off1 i) S1.size (k0_off1_inb i)).emb (Shape.Idx.first (numel1_S1.symm ▸ Nat.one_pos))

/-- The table word of a point lies at the point's number. -/
theorem wordIdx_val : ∀ i : grid0.Coords, (S10.rowMajor (wordIdx i)).val = (i 0).val := by decide +kernel

/-- The word a point reads of the row table. -/
theorem row_word (i : grid0.Coords) : tables (F := F) 0 (wordIdx i) = rowBlk i :=
  congrArg lit0 (Fin.ext (wordIdx_val i) : S10.rowMajor (wordIdx i) = (i 0 : Fin 10))
/-- The word a point reads of the column table. -/
theorem col_word (i : grid0.Coords) : tables (F := F) 1 (wordIdx i) = colBlk i :=
  congrArg lit1 (Fin.ext (wordIdx_val i) : S10.rowMajor (wordIdx i) = (i 0 : Fin 10))

/-- The row window sits at the row block its table names. -/
theorem rows_at (i : grid0.Coords) : cc0_transform_0 k0_off1_inb numel1_S1 (tables (F := F)) i = ![(rowBlk i).toNat, 0] := by
  have e : cc0_transform_0 k0_off1_inb numel1_S1 (tables (F := F)) i = ![(tables (F := F) 0 (wordIdx i) : BitVec 32).toNat, 0] := rfl
  rw [e, row_word]
/-- The column window sits at the column block its table names. -/
theorem cols_at (i : grid0.Coords) : cc0_transform_1 k0_off1_inb numel1_S1 (tables (F := F)) i = ![0, (colBlk i).toNat] := by
  have e : cc0_transform_1 k0_off1_inb numel1_S1 (tables (F := F)) i = ![0, (tables (F := F) 1 (wordIdx i) : BitVec 32).toNat] := rfl
  rw [e, col_word]

/-- A table has four blocks to name along the rows, -/
theorem rows_lt : ∀ k : Fin 10, (lit0 k).toNat < 4 := by decide
/-- and four along the columns. -/
theorem cols_lt : ∀ k : Fin 10, (lit1 k).toNat < 4 := by decide

/-- Every block the tables name lies inside its array. -/
theorem tables_ok : ok0 (F := F) tables := by
  refine ⟨fun i => ⟨?_, .inl rfl⟩, fun i => ⟨?_, .inl rfl⟩⟩
  · rw [rows_at]
    have := rows_lt (i 0)
    intro a; fin_cases a
    · show ((lit0 (i 0)).toNat + 1) * 512 ≤ 2048; omega
    · show (0 + 1) * 4 ≤ 4; omega
  · rw [cols_at]
    have := cols_lt (i 0)
    intro a; fin_cases a
    · show (0 + 1) * 4 ≤ 4; omega
    · show ((lit1 (i 0)).toNat + 1) * 512 ≤ 2048; omega

/-- The two tables, with their blocks inside the arrays. -/
abbrev adm : (pcfg0 (F := F)).Adm := ⟨tables, tables_ok⟩
/-- The call with those tables. -/
abbrev cfgT : Pipeline.Cfg sig Λ₀ := cfg0 (F := F) adm

end Cert.KernelIdeal.Energy

end
-- ==== Proof.Ideal.Body.lean ====
/- The body of the idealized kernel at one grid point: the first point clears the sum, a point on the diagonal adds the
   strict upper triangle of its tile, and any other point adds its whole tile. -/
module

public import proofs.«01_k».proof.Proof.Ideal.Entry
public import Idealize.ShloMosaic.Lib.Pipeline.Value

@[expose] public section

set_option maxRecDepth 16384

noncomputable section

namespace Cert.KernelIdeal.Energy

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The row table as the body is handed it. -/
abbrev rowTab : Memref sig .tc .smem S10 .i32 := Memref.whole main_call0_c
/-- The column table as the body is handed it. -/
abbrev colTab : Memref sig .tc .smem S10 .i32 := Memref.whole main_call0_c_0

/-- A table's half share on core `c`. -/
abbrev tabHalf (c : Dev nD) {S : Shape} {e : EltTy} (M : Memref sig .tc .smem S e) (f : Buf (Elt F) (M.view.loc (c : Thread nD τ))) : sProp 𝕄 :=
  M.view.loc (c : Thread nD τ) ↦{fullShare.right} f

/-- What a point on the diagonal leaves in the sum. -/
def addDiag (x0 : Vec F S512x4 .f32) (x1 : Vec F S4x512 .f32) (acc : Vec F S1x1 .f32) : Vec F S1x1 .f32 :=
  k0_pay4 (k0_pay6 acc) (k0_pay7 (k0_pay1 x0) (k0_pay2 x1)) (k0_pay8 (k0_pay1 x0) (k0_pay2 x1)) (k0_pay9 (k0_pay1 x0) (k0_pay2 x1))
    (k0_pay10 (k0_pay1 x0) (k0_pay2 x1)) (Scalar.ofBits .f32 0x3F000000#32)
/-- What a point off the diagonal leaves in the sum. -/
def addOff (x0 : Vec F S512x4 .f32) (x1 : Vec F S4x512 .f32) (acc : Vec F S1x1 .f32) : Vec F S1x1 .f32 :=
  k0_pay5 (k0_pay11 acc) (k0_pay12 (k0_pay1 x0) (k0_pay2 x1)) (k0_pay14 (k0_pay1 x0) (k0_pay2 x1)) (k0_pay15 (k0_pay1 x0) (k0_pay2 x1))
    (k0_pay16 (k0_pay1 x0) (k0_pay2 x1))

/-- The block row of tile `i`, as the body's first scalar load reads it. -/
abbrev rowRead (i : grid0.Coords) : BitVec 32 :=
  View.readAt (Elt F) rowTab.view (Rect.unit (s := S10) (k0_off1 i) S1.size (k0_off1_inb i)).toLoadRect (tables (F := F) 0) (Shape.Idx.first (numel1_S1.symm ▸ Nat.one_pos))
/-- The block column of tile `i`, as the body's second scalar load reads it. -/
abbrev colRead (i : grid0.Coords) : BitVec 32 :=
  View.readAt (Elt F) colTab.view (Rect.unit (s := S10) (k0_off1 i) S1.size (k0_off1_inb i)).toLoadRect (tables (F := F) 1) (Shape.Idx.first (numel1_S1.symm ▸ Nat.one_pos))

/-- What the first scalar load reads is the point's row block, -/
theorem rowRead_eq (i : grid0.Coords) : rowRead (F := F) i = rowBlk i := row_word (F := F) i
/-- and what the second reads is its column block. -/
theorem colRead_eq (i : grid0.Coords) : colRead (F := F) i = colBlk i := col_word (F := F) i

/-- The two offsets of a whole block are zero. -/
theorem hz2 : (![0, 0] : Fin 2 → Nat) = fun _ => 0 := funext fun a => by fin_cases a <;> rfl

/-- A point off the diagonal adds the tile's energy to the running sum and leaves the blocks and the tables as they were. -/
theorem run_off (c : Dev nD) (i : grid0.Coords) (arg3 : Memref sig .tc .vmem S512x4 .f32) (harg3 : arg3.IsWhole) (arg4 : Memref sig .tc .vmem S4x512 .f32) (harg4 : arg4.IsWhole) (arg5 : Memref sig .tc .vmem S1x1 .f32) (harg5 : arg5.IsWhole)
    (h1 : ¬ k0_cond1 i = 1#1) (h2 : ¬ k0_cond2 (rowBlk i) (colBlk i) = 1#1) (h3 : k0_cond3 (rowBlk i) (colBlk i) = 1#1)
    (x0 : Vec F S512x4 .f32) (x1 : Vec F S4x512 .f32) (acc : Vec F S1x1 .f32) :
      ∀ (E : Set ℕ) (K : PUnit → sProp 𝕄),
        iprop(owns (c : Thread nD τ) arg3 fullShare x0 ∗ owns (c : Thread nD τ) arg4 fullShare x1 ∗ owns (c : Thread nD τ) arg5 fullShare acc
            ∗ tabHalf c rowTab (tables (F := F) 0) ∗ tabHalf c colTab (tables (F := F) 1)
            ∗ (iprop(owns (c : Thread nD τ) arg3 fullShare x0 ∗ owns (c : Thread nD τ) arg4 fullShare x1 ∗ owns (c : Thread nD τ) arg5 fullShare (addOff x0 x1 acc)
              ∗ tabHalf c rowTab (tables (F := F) 0) ∗ tabHalf c colTab (tables (F := F) 1)) -∗ K ⟨⟩))
          ⊢ wp frame (wpE (defs₀ (F := F)) Variants.none c none) E (cc0__tile_kernel i rowTab (Memref.isWhole_whole _) colTab (Memref.isWhole_whole _) arg3 harg3 arg4 harg4 arg5 harg5) K := by
  intro E K
  rw [← rowRead_eq (F := F) i, ← colRead_eq (F := F) i] at h2 h3
  simp only [cc0__tile_kernel_eq_skeleton]; unfold cc0__tile_kernel_skel
  simp only [k0_part1_eq_skeleton, k0_part2_eq_skeleton]
  unfold owns
  iintro ⟨⟨%f0, %hf0, H0⟩, ⟨%f1, %hf1, H1⟩, ⟨%f2, %hf2, H2⟩, HT0, HT1, Hk⟩
  obtain rfl := harg3.eq_unread hf0; obtain rfl := harg4.eq_unread hf1; obtain rfl := harg5.eq_unread hf2
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    sl_unfold_words
    rw [View.read_writes_eq_canon _ _ _ (View.cover_of_tiledL _ S1x1.size (by sl_kernel_rfl))]
    rw [View.canon_unit_zero hz2]
    simp only [View.readAt_eq_ld, harg3.read_unread, harg4.read_unread, harg5.read_unread, View.ld_unit_zero (S := S1x1) hz2, View.ld_unit_zero (S := S512x4) hz2, View.ld_unit_zero (S := S4x512) hz2]
    rfl
  isplitl [HT0]; · iexact HT0
  iexact HT1

/-- A later point on the diagonal adds the energy of the tile's strict upper triangle to the running sum. -/
theorem run_diag (c : Dev nD) (i : grid0.Coords) (arg3 : Memref sig .tc .vmem S512x4 .f32) (harg3 : arg3.IsWhole) (arg4 : Memref sig .tc .vmem S4x512 .f32) (harg4 : arg4.IsWhole) (arg5 : Memref sig .tc .vmem S1x1 .f32) (harg5 : arg5.IsWhole)
    (h1 : ¬ k0_cond1 i = 1#1) (h2 : k0_cond2 (rowBlk i) (colBlk i) = 1#1) (h3 : ¬ k0_cond3 (rowBlk i) (colBlk i) = 1#1)
    (x0 : Vec F S512x4 .f32) (x1 : Vec F S4x512 .f32) (acc : Vec F S1x1 .f32) :
      ∀ (E : Set ℕ) (K : PUnit → sProp 𝕄),
        iprop(owns (c : Thread nD τ) arg3 fullShare x0 ∗ owns (c : Thread nD τ) arg4 fullShare x1 ∗ owns (c : Thread nD τ) arg5 fullShare acc
            ∗ tabHalf c rowTab (tables (F := F) 0) ∗ tabHalf c colTab (tables (F := F) 1)
            ∗ (iprop(owns (c : Thread nD τ) arg3 fullShare x0 ∗ owns (c : Thread nD τ) arg4 fullShare x1 ∗ owns (c : Thread nD τ) arg5 fullShare (addDiag x0 x1 acc)
              ∗ tabHalf c rowTab (tables (F := F) 0) ∗ tabHalf c colTab (tables (F := F) 1)) -∗ K ⟨⟩))
          ⊢ wp frame (wpE (defs₀ (F := F)) Variants.none c none) E (cc0__tile_kernel i rowTab (Memref.isWhole_whole _) colTab (Memref.isWhole_whole _) arg3 harg3 arg4 harg4 arg5 harg5) K := by
  intro E K
  rw [← rowRead_eq (F := F) i, ← colRead_eq (F := F) i] at h2 h3
  simp only [cc0__tile_kernel_eq_skeleton]; unfold cc0__tile_kernel_skel
  simp only [k0_part1_eq_skeleton, k0_part2_eq_skeleton]
  unfold owns
  iintro ⟨⟨%f0, %hf0, H0⟩, ⟨%f1, %hf1, H1⟩, ⟨%f2, %hf2, H2⟩, HT0, HT1, Hk⟩
  obtain rfl := harg3.eq_unread hf0; obtain rfl := harg4.eq_unread hf1; obtain rfl := harg5.eq_unread hf2
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    sl_unfold_words
    rw [View.read_writes_eq_canon _ _ _ (View.cover_of_tiledL _ S1x1.size (by sl_kernel_rfl))]
    rw [View.canon_unit_zero hz2]
    simp only [View.readAt_eq_ld, harg3.read_unread, harg4.read_unread, harg5.read_unread, View.ld_unit_zero (S := S1x1) hz2, View.ld_unit_zero (S := S512x4) hz2, View.ld_unit_zero (S := S4x512) hz2]
    rfl
  isplitl [HT0]; · iexact HT0
  iexact HT1

/-- The first point clears the sum, whatever was there, and then adds the energy of the tile's strict upper triangle. -/
theorem run_first (c : Dev nD) (i : grid0.Coords) (arg3 : Memref sig .tc .vmem S512x4 .f32) (harg3 : arg3.IsWhole) (arg4 : Memref sig .tc .vmem S4x512 .f32) (harg4 : arg4.IsWhole) (arg5 : Memref sig .tc .vmem S1x1 .f32) (harg5 : arg5.IsWhole)
    (h1 : k0_cond1 i = 1#1) (h2 : k0_cond2 (rowBlk i) (colBlk i) = 1#1) (h3 : ¬ k0_cond3 (rowBlk i) (colBlk i) = 1#1)
    (x0 : Vec F S512x4 .f32) (x1 : Vec F S4x512 .f32) (acc : Vec F S1x1 .f32) :
      ∀ (E : Set ℕ) (K : PUnit → sProp 𝕄),
        iprop(owns (c : Thread nD τ) arg3 fullShare x0 ∗ owns (c : Thread nD τ) arg4 fullShare x1 ∗ owns (c : Thread nD τ) arg5 fullShare acc
            ∗ tabHalf c rowTab (tables (F := F) 0) ∗ tabHalf c colTab (tables (F := F) 1)
            ∗ (iprop(owns (c : Thread nD τ) arg3 fullShare x0 ∗ owns (c : Thread nD τ) arg4 fullShare x1 ∗ owns (c : Thread nD τ) arg5 fullShare (addDiag x0 x1 k0_pay3)
              ∗ tabHalf c rowTab (tables (F := F) 0) ∗ tabHalf c colTab (tables (F := F) 1)) -∗ K ⟨⟩))
          ⊢ wp frame (wpE (defs₀ (F := F)) Variants.none c none) E (cc0__tile_kernel i rowTab (Memref.isWhole_whole _) colTab (Memref.isWhole_whole _) arg3 harg3 arg4 harg4 arg5 harg5) K := by
  intro E K
  rw [← rowRead_eq (F := F) i, ← colRead_eq (F := F) i] at h2 h3
  simp only [cc0__tile_kernel_eq_skeleton]; unfold cc0__tile_kernel_skel
  simp only [k0_part1_eq_skeleton, k0_part2_eq_skeleton]
  unfold owns
  iintro ⟨⟨%f0, %hf0, H0⟩, ⟨%f1, %hf1, H1⟩, ⟨%f2, %hf2, H2⟩, HT0, HT1, Hk⟩
  obtain rfl := harg3.eq_unread hf0; obtain rfl := harg4.eq_unread hf1; obtain rfl := harg5.eq_unread hf2
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    sl_unfold_words
    rw [View.read_writes_eq_canon _ _ _ (View.cover_of_tiledL _ S1x1.size (by sl_kernel_rfl))]
    rw [View.canon_cons_unit_zero (S := S1x1) hz2]
    simp only [View.readCov_unit_zero (S := S1x1) _ hz2]
    simp only [View.readAt_eq_ld, harg3.read_unread, harg4.read_unread, harg5.read_unread, View.ld_unit_zero (S := S1x1) hz2, View.ld_unit_zero (S := S512x4) hz2, View.ld_unit_zero (S := S4x512) hz2]
    rfl
  isplitl [HT0]; · iexact HT0
  iexact HT1

end Cert.KernelIdeal.Energy

end
-- ==== Proof.Ideal.Launch.lean ====
/- The grid call of the idealized kernel, run: what the one-cell sum holds after each point, the whole run of the
   program, and that its arguments end unchanged. -/
module

public import proofs.«01_k».proof.Proof.Ideal.Body
public import Idealize.ShloMosaic.Lib.Claim

@[expose] public section

set_option maxRecDepth 16384

noncomputable section

namespace Cert.KernelIdeal.Energy

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions of the body -/

/-- The sum is cleared at the first point. -/
theorem clears_iff (t : Fin grid0.N) : k0_cond1 (grid0.coords t) = 1#1 ↔ t.val = 0 := by
  have ht : t.val < 10 := Nat.lt_of_lt_of_eq t.isLt N_0
  have e0 : (grid0.coords t 0).val = t.val / 1 % 10 := Pipeline.Grid.coords_val t 0 (by decide) rfl
  simp only [k0_cond1, e0]
  word_cmp

/-- The masked half of the body runs when the two blocks are one, -/
theorem masked_iff (a b : BitVec 32) : k0_cond2 a b = 1#1 ↔ a = b := by
  unfold k0_cond2
  by_cases h : a = b
  · simp [Scalar.cmpi, Scalar.extui, IntOp.cmpi, h]
  · have e : (a == b) = false := beq_eq_false_iff_ne.2 h
    simp [Scalar.cmpi, Scalar.extui, IntOp.cmpi, bne, e, h]
/-- and the unmasked half when they differ. -/
theorem unmasked_iff (a b : BitVec 32) : k0_cond3 a b = 1#1 ↔ a ≠ b := by
  unfold k0_cond3
  by_cases h : a = b
  · simp [Scalar.cmpi, Scalar.extui, IntOp.cmpi, h]
  · have e : (a == b) = false := beq_eq_false_iff_ne.2 h
    simp [Scalar.cmpi, Scalar.extui, IntOp.cmpi, bne, e, h]

/-- Every point writes the sum. -/
theorem never_idle (i : grid0.Coords) : (cfgT (F := F)).idle 2 i = false := by
  show idle0 (F := F) tables 2 i = false
  simp only [idle0]
  generalize Pipeline.Prefetch.Contents.atD (tables (F := F)) 0 (k0_off1 i) = a
  generalize Pipeline.Prefetch.Contents.atD (tables (F := F)) 1 (k0_off1 i) = b
  by_cases h : (a : BitVec 32) = b
  · rw [(masked_iff _ _).2 h]; simp
  · rw [(unmasked_iff _ _).2 h]; simp

/-- The coordinate of a point is its number. -/
theorem point_coord (t : Fin (cfgT (F := F)).N) : (grid0.coords t 0).val = t.val :=
  (fun t => by
    have ht : t.val < 10 := Nat.lt_of_lt_of_eq t.isLt N_0
    have e0 : (grid0.coords t 0).val = t.val / 1 % 10 := Pipeline.Grid.coords_val t 0 (by decide) rfl
    rw [e0]; omega : ∀ t : Fin grid0.N, (grid0.coords t 0).val = t.val) t

/-- The two tables start with the same block. -/
theorem first_masked : ∀ k : Fin 10, k.val = 0 → lit0 k = lit1 k := by decide

/-! ## What the sum holds -/

/-- What a point adds: the strict upper triangle of the tile on the diagonal, the whole tile off it. -/
def step (i : grid0.Coords) (x0 : Vec F S512x4 .f32) (x1 : Vec F S4x512 .f32) (acc : Vec F S1x1 .f32) : Vec F S1x1 .f32 :=
  if rowBlk i = colBlk i then addDiag x0 x1 acc else addOff x0 x1 acc

/-- On the diagonal a point adds the triangle, -/
theorem step_diag {i : grid0.Coords} (h : rowBlk i = colBlk i) : step (F := F) i = addDiag := by
  funext x0 x1 acc; exact if_pos h
/-- and off it the whole tile. -/
theorem step_off {i : grid0.Coords} (h : rowBlk i ≠ colBlk i) : step (F := F) i = addOff := by
  funext x0 x1 acc; exact if_neg h

/-- Window `w`'s block at point `t`, read off its array as the call finds it. -/
def blockAt (c : Dev nD) (w : Fin (cfgT (F := F)).W) (t : Fin (cfgT (F := F)).N) : (((cfgT (F := F)).win w).xblock ((cfgT (F := F)).grid.coords t)).Idx → Elt F ((cfgT (F := F)).win w).elt :=
  (((cfgT (F := F)).win w).blk t).view.read (Elt F) (bufAt m c (Pipeline.arrRef spec0 w))

/-- The sum before point `n`. -/
def sumTo (c : Dev nD) : ℕ → Vec F S1x1 .f32
  | 0 => k0_pay3
  | n + 1 => if h : n < (cfgT (F := F)).N then step (grid0.coords ⟨n, h⟩) (blockAt m c 0 ⟨n, h⟩) (blockAt m c 1 ⟨n, h⟩) (sumTo c n) else sumTo c n

/-- The sum after a point is what the point makes of the sum before it. -/
theorem sumTo_succ (c : Dev nD) (t : Fin (cfgT (F := F)).N) :
    sumTo m c (t.val + 1) = step (grid0.coords t) (blockAt m c 0 t) (blockAt m c 1 t) (sumTo m c t.val) := by
  conv_lhs => unfold sumTo
  exact dif_pos t.isLt

/-! ## The proof data of the call -/

/-- The arrays as the call finds them; after each point, the two blocks in place and the sum so far. -/
def dats (_ : Fin 1) (c : Dev nD) : Dat τ (Elt F) Unit ℕ (UR sig nD τ) ℕ (cfgT (F := F)) c where
  A w := bufAt m c (Pipeline.arrRef spec0 w)
  after w t := match w with
    | ⟨0, _⟩ => blockAt m c 0 t
    | ⟨1, _⟩ => blockAt m c 1 t
    | ⟨2, _⟩ => sumTo m c (t.val + 1)
  Φ _ := iprop(Pipeline.ΦA spec0 c ∗ Pipeline.ΦT pre0 (tables (F := F)) c)
  q _ := fullShare
  owed _ := 0

/-- The arrays are as the call finds them. -/
theorem A_eq (c : Dev nD) (w : Fin (cfgT (F := F)).W) : (dats m 0 c).A w = bufAt m c (Pipeline.arrRef spec0 w) := by
  dsimp only [dats]

/-- After a point its row block is in place, -/
theorem after_rows (c : Dev nD) (t : Fin (cfgT (F := F)).N) : (dats m 0 c).after 0 t = blockAt m c 0 t := by dsimp only [dats]; try rfl
/-- its column block too, -/
theorem after_cols (c : Dev nD) (t : Fin (cfgT (F := F)).N) : (dats m 0 c).after 1 t = blockAt m c 1 t := by dsimp only [dats]; try rfl
/-- and the sum so far is in the result's block. -/
theorem after_sum (c : Dev nD) (t : Fin (cfgT (F := F)).N) : (dats m 0 c).after 2 t = sumTo m c (t.val + 1) := by dsimp only [dats]; try rfl

/-- The row window's buffer holds the point's row block. -/
theorem before_rows (c : Dev nD) (t : Fin (cfgT (F := F)).N) (d) : (dats m 0 c).before 0 t d = blockAt m c 0 t :=
  ((dats m 0 c).before_in_eq_fetched 0 rfl (fun _ => rfl) (fun _ _ _ => rfl)
    (fun t => by rw [after_rows]; unfold Dat.blockOf blockAt; rw [A_eq]; try rfl) t d).trans
    (by unfold Dat.fetched Dat.blockOf blockAt; rw [A_eq]; try rfl)
/-- The column window's buffer holds the point's column block. -/
theorem before_cols (c : Dev nD) (t : Fin (cfgT (F := F)).N) (d) : (dats m 0 c).before 1 t d = blockAt m c 1 t :=
  ((dats m 0 c).before_in_eq_fetched 1 rfl (fun _ => rfl) (fun _ _ _ => rfl)
    (fun t => by rw [after_cols]; unfold Dat.blockOf blockAt; rw [A_eq]; try rfl) t d).trans
    (by unfold Dat.fetched Dat.blockOf blockAt; rw [A_eq]; try rfl)

/-- The sum leaves its buffer after the last point only. -/
theorem flush_sum : ∀ t : Fin (cfgT (F := F)).N, ((cfgT (F := F)).win 2).flush t = true ↔ t.val % 10 = 9 :=
  (fun t => Pipeline.Window.flushOf_const cc0_transform_2 (fun _ _ => rfl) (n := 10) (by decide) rfl t : ∀ t : Fin grid0.N, Pipeline.Window.flushOf grid0 true cc0_transform_2 t = true ↔ t.val % 10 = 9)

/-- The sum's buffer holds, at a later point, the sum of the points before it. -/
theorem before_sum (c : Dev nD) (t : Fin (cfgT (F := F)).N) (ht : t.val ≠ 0) (d) : (dats m 0 c).before 2 t d = sumTo m c t.val := by
  have hN : t.val < 10 := lt_of_lt_of_eq t.isLt (show (cfgT (F := F)).N = 10 from N_0)
  rw [(dats m 0 c).before_out_kept 2 rfl t ht (by
    rw [← Bool.not_eq_true, flush_sum]; show ¬ ((t.val - 1) % 10 = 9); omega) (never_idle (F := F)) (fun _ _ => rfl) d, after_sum]
  congr 1
  show t.val - 1 + 1 = t.val
  omega

/-! ## The obligation of the body -/

/-- The memref each window hands the body at a point. -/
abbrev rowsMem (t : Fin (cfgT (F := F)).N) : Memref sig .tc .vmem S512x4 .f32 := spec0_0.stage ((cfgT (F := F)).slots t 0)
/-- The staging buffer of a point's column block. -/
abbrev colsMem (t : Fin (cfgT (F := F)).N) : Memref sig .tc .vmem S4x512 .f32 := spec0_1.stage ((cfgT (F := F)).slots t 1)
/-- The staging buffer of the sum. -/
abbrev sumMem (t : Fin (cfgT (F := F)).N) : Memref sig .tc .vmem S1x1 .f32 := spec0_2.stage ((cfgT (F := F)).slots t 2)

/-- The body as the call makes it at a point. -/
abbrev bodyAt (t : Fin (cfgT (F := F)).N) : Prog (TpuEff nD τ sig (Elt F) Λ₀ .tc) PUnit :=
  cc0__tile_kernel (grid0.coords t) rowTab (Memref.isWhole_whole _) colTab (Memref.isWhole_whole _)
    (rowsMem (F := F) t) (hstage0_0 (((cfgT (F := F)).slots t 0).cast nbuf0_0)) (colsMem (F := F) t) (hstage0_1 (((cfgT (F := F)).slots t 1).cast nbuf0_1))
    (sumMem (F := F) t) (hstage0_2 (((cfgT (F := F)).slots t 2).cast nbuf0_2))

/-- The body a point runs is the kernel's, at that point's buffers. -/
theorem bodyAt_row (t : Fin (cfgT (F := F)).N) :
    defs₀ (F := F) .tc (cfgT (F := F)).body ((cfgT (F := F)).bodyArgs t ((cfgT (F := F)).slots t)) = bodyAt t := by
  unfold defs₀; rw [Defs.onTc_tc]

/-- The halves of the two tables the call lends the body. -/
theorem halves_eq (c : Dev nD) : (Pipeline.ΦT pre0 (tables (F := F)) c : sProp 𝕄) = iprop(tabHalf c rowTab (tables (F := F) 0) ∗ tabHalf c colTab (tables (F := F) 1)) := by
  unfold Pipeline.ΦT Pipeline.prefHeld
  rw [show (Finset.univ : Finset (Fin 2)) = insert (0 : Fin 2) {(1 : Fin 2)} from by decide,
    bigSep_insert (by decide), bigSep_singleton]
  rfl

/-- What the body is called with, -/
def bodyPre (c : Dev nD) (t : Fin (cfgT (F := F)).N) : sProp 𝕄 :=
  iprop((dats m 0 c).Φ t.castSucc ∗ (dats m 0 c).owesAt () t.castSucc
    ∗ (∃ d, owns (c : Thread nD τ) (rowsMem (F := F) t) fullShare ((dats m 0 c).before 0 t d))
    ∗ (∃ d, owns (c : Thread nD τ) (colsMem (F := F) t) fullShare ((dats m 0 c).before 1 t d))
    ∗ (∃ d, owns (c : Thread nD τ) (sumMem (F := F) t) fullShare ((dats m 0 c).before 2 t d)))
/-- and what it returns. -/
def bodyPost (c : Dev nD) (t : Fin (cfgT (F := F)).N) : sProp 𝕄 :=
  iprop((dats m 0 c).Φ t.succ ∗ (dats m 0 c).owesAt () t.succ
    ∗ owns (c : Thread nD τ) (rowsMem (F := F) t) fullShare ((dats m 0 c).after 0 t)
    ∗ owns (c : Thread nD τ) (colsMem (F := F) t) fullShare ((dats m 0 c).after 1 t)
    ∗ owns (c : Thread nD τ) (sumMem (F := F) t) fullShare ((dats m 0 c).after 2 t))

set_option maxHeartbeats 800000 in
/-- The body at a point: the blocks and the tables stay, the sum takes the point's tile. -/
theorem sound_body (c : Dev nD) (t : Fin (cfgT (F := F)).N) :
    bodyPre m c t ⊢ wp frame (wpE (defs₀ (F := F)) Variants.none c none) Set.univ (bodyAt t) (fun _ => bodyPost m c t) := by
  unfold bodyPre bodyPost bodyAt
  simp only [before_rows, before_cols]
  rw [show (dats m 0 c).Φ t.succ = (dats m 0 c).Φ t.castSucc from rfl,
    show (dats m 0 c).owesAt () t.succ = (dats m 0 c).owesAt () t.castSucc from rfl,
    after_rows, after_cols, after_sum, sumTo_succ]
  rw [show (dats m 0 c).Φ t.castSucc = iprop(Pipeline.ΦA spec0 c ∗ Pipeline.ΦT pre0 (tables (F := F)) c) from rfl, halves_eq]
  by_cases h0 : t.val = 0
  · have hd : rowBlk (grid0.coords t) = colBlk (grid0.coords t) := first_masked _ (by
      rw [point_coord (F := F), h0])
    rw [show sumTo m c t.val = k0_pay3 from by rw [h0]; rfl, step_diag hd]
    iintro ⟨⟨HΦ, ⟨HT0, HT1⟩⟩, Ho, ⟨%d0, H0⟩, ⟨%d1, H1⟩, ⟨%d2, H2⟩⟩
    iapply ((run_first c (grid0.coords t) _ _ _ _ _ _ ((clears_iff t).2 h0) ((masked_iff _ _).2 hd) (fun h => (unmasked_iff _ _).1 h hd) (blockAt m c 0 t) (blockAt m c 1 t) _) Set.univ _)
    isplitl [H0]; · iexact H0
    isplitl [H1]; · iexact H1
    isplitl [H2]; · iexact H2
    isplitl [HT0]; · iexact HT0
    isplitl [HT1]; · iexact HT1
    iintro ⟨H0, H1, H2, HT0, HT1⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    iexact H2
  · simp only [before_sum m c t h0]
    by_cases hd : rowBlk (grid0.coords t) = colBlk (grid0.coords t)
    · rw [step_diag hd]
      iintro ⟨⟨HΦ, ⟨HT0, HT1⟩⟩, Ho, ⟨%d0, H0⟩, ⟨%d1, H1⟩, ⟨%d2, H2⟩⟩
      iapply ((run_diag c (grid0.coords t) _ _ _ _ _ _ (fun h => h0 ((clears_iff t).1 h)) ((masked_iff _ _).2 hd) (fun h => (unmasked_iff _ _).1 h hd) (blockAt m c 0 t) (blockAt m c 1 t) (sumTo m c t.val)) Set.univ _)
      isplitl [H0]; · iexact H0
      isplitl [H1]; · iexact H1
      isplitl [H2]; · iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      iexact H2
    · rw [step_off hd]
      iintro ⟨⟨HΦ, ⟨HT0, HT1⟩⟩, Ho, ⟨%d0, H0⟩, ⟨%d1, H1⟩, ⟨%d2, H2⟩⟩
      iapply ((run_off c (grid0.coords t) _ _ _ _ _ _ (fun h => h0 ((clears_iff t).1 h)) (fun h => hd ((masked_iff _ _).1 h)) ((unmasked_iff _ _).2 hd) (blockAt m c 0 t) (blockAt m c 1 t) (sumTo m c t.val)) Set.univ _)
      isplitl [H0]; · iexact H0
      isplitl [H1]; · iexact H1
      isplitl [H2]; · iexact H2
      isplitl [HT0]; · iexact HT0
      isplitl [HT1]; · iexact HT1
      iintro ⟨H0, H1, H2, HT0, HT1⟩
      isplitl [HΦ HT0 HT1]
      · isplitl [HΦ]; · iexact HΦ
        isplitl [HT0]; · iexact HT0
        iexact HT1
      isplitl [Ho]; · iexact Ho
      isplitl [H0]; · iexact H0
      isplitl [H1]; · iexact H1
      iexact H2

/-- The body meets the call's obligation at every point. -/
theorem body_obligation (c : Dev nD) : BodyObligation (dats (F := F) m 0 c) (defs₀ (F := F)) Variants.none () Set.univ := fun t => by
  rw [bigSep_W0, bigSep_W0, bodyAt_row, never_idle]
  exact triple_restated (sound_body m c t) rfl .rfl fun _ => .rfl

/-! ## The run -/

set_option backward.isDefEq.respectTransparency.types false in
/-- Every execution of the program ends, with the sum written back by the call, the reshape after it run on that, and
    every counter at zero. -/
theorem run_main : θ_run defs (onTc (τ := τ) (main (F := F))) (s₀ m ρ) (fun r =>
    Pipeline.FramePost (Pipeline.pin pcfgs fun _ => adm) (dats m) 0 (Pipeline.afterTail pcfgs (fun _ => adm) (dats m) 0 (atCall m) [hostOps1]) r ∧ r.2.sem = fun _ => 0) :=
  Pipeline.θ_run_frameP_around (Q' := _) pcfgs (fun _ => adm) (dats m) (0 : Fin 1) launch0 defs₀ Variants.none m ρ main
    (hbody := fun c => (body_obligation m c).loose) (hshare := fun c => (dats m 0 c).share_full fun _ => rfl)
    (howed := fun _ _ => rfl) (V₀ := atCall m) (opss := [hostOps1]) (hsub := later_sub) (hfresh := later_allocs) (hkeep := later_keeps)
    (hmain := program_around m Variants.none) (hA := A_eq m) (hpf := bufAt_tables m) (hΦ := fun _ _ => rfl)

end Cert.KernelIdeal.Energy

end
-- ==== Proof.Ideal.Result.lean ====
/- What the idealized kernel leaves: its arguments as launched, its result the sum after the last point, and every
   counter at zero. -/
module

public import proofs.«01_k».proof.Proof.Ideal.Launch

@[expose] public section

set_option maxRecDepth 16384

noncomputable section

namespace Cert.KernelIdeal.Energy

open Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ) (ρ : Dev nD → PrngReg)

/-! ## The arguments -/

/-- The call finds the charges as launched, -/
theorem charges_kept (c : Dev nD) : bufAt m c main_arg0 = m ((c : Thread nD τ).loc main_arg0) := by
  show StableHlo.after hostOps0 _ (Proc.devRef .tc main_arg0) = _
  after_results
/-- and the positions. -/
theorem positions_kept (c : Dev nD) : bufAt m c main_arg1 = m ((c : Thread nD τ).loc main_arg1) := by
  show StableHlo.after hostOps0 _ (Proc.devRef .tc main_arg1) = _
  after_results

/-- A buffer that the reshape does not write and that is no array of the call ends as the call found it. -/
theorem tail_other (c : Dev nD) (b : Ref sig .tc) (h : main_v0 ≠ b) (hw : ∀ w, Pipeline.arrRef spec0 w ≠ b) :
    Pipeline.afterTail pcfgs (fun _ => adm) (dats m) 0 (atCall m) [hostOps1] c b = bufAt m c b := by
  unfold Pipeline.afterTail
  rw [StableHlo.after_of_forall_not_mem (b := Proc.devRef .tc b) _ _ (fun op hop => by
    obtain rfl := List.mem_singleton.mp hop
    simp only [StableHlo.reshape_writes, Finset.mem_singleton]
    exact StableHlo.devRef_ne_of_ne h.symm)]
  exact Pipeline.withArrays_of_ne _ c (atCall m c) _ b hw

/-! ## The result -/

/-- The one index of a one-cell array. -/
abbrev cell : S1x1.Idx := Shape.Idx.first (s := S1x1) (by decide)
/-- There is no other. -/
theorem cell_unique : ∀ i j : S1x1.Idx, i = j := by decide

/-- The sum after the last point, as the call's array of one cell holds it. -/
def total (c : Dev nD) : Vec F S1x1 .f32 := sumTo m c 10

/-- The call's result array ends at the sum after the last point. -/
theorem array_total (c : Dev nD) : (dats m 0 c).arrAt 2 (cfgT (F := F)).N = total m c := by
  refine (dats m 0 c).arrAt_eq_of_cover 2 (total m c) (fun t hf => ?_) (fun i => ?_)
  · have hN : t.val < 10 := lt_of_lt_of_eq t.isLt (show (cfgT (F := F)).N = 10 from N_0)
    have h9 : t.val + 1 = 10 := by have := (flush_sum t).1 hf; omega
    show ((cfgT (F := F)).win 2).cut (grid0.coords t) ((dats m 0 c).after 2 t) = _
    rw [after_sum, h9]
    funext y
    exact congrArg (sumTo m c 10) (cell_unique _ _)
  · have h9 : 9 < (cfgT (F := F)).N := by rw [show (cfgT (F := F)).N = 10 from N_0]; omega
    refine ⟨⟨9, h9⟩, (flush_sum _).2 rfl, ?_⟩
    exact Finset.mem_map.2 ⟨cell, Finset.mem_univ _, cell_unique _ _⟩

/-- The result is that one cell. -/
theorem tail_result (c : Dev nD) :
    Pipeline.afterTail pcfgs (fun _ => adm) (dats m) 0 (atCall m) [hostOps1] c main_v0 = fun _ => total m c cell := by
  unfold Pipeline.afterTail
  have e : Pipeline.withArrays spec0 c (atCall m c) (fun w => (dats m 0 c).arrAt w (cfgT (F := F)).N) (Proc.devRef .tc main_call0_v3) = total m c :=
    (Pipeline.withArrays_arr spec0 (by decide) c (atCall m c) _ 2).trans (array_total m c)
  show StableHlo.after hostOps1 _ (Proc.devRef .tc main_v0) = _
  after_results
  funext i
  refine (congrFun (congrArg (fun x : Vec F S1x1 .f32 => shapeCast S_ x shapeCasts_S1x1_S_) e) i).trans ?_
  exact congrArg (total m c) (cell_unique _ _)

/-- The whole run: result, arguments, counters. -/
theorem run_result : θ_run defs (onTc (τ := τ) (main (F := F))) ⟨m, fun _ => 0, ρ⟩ (fun r => (∀ c : Dev nD,
      r.2.mem ((c.tc : Thread nD τ).loc main_v0) = (fun _ => total m c cell)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_v0 (Pipeline.mem_restRefs_of main_v0 (by decide) (by exact (by decide : ∀ w, Pipeline.arrRef spec0 w ≠ main_v0)))).trans (tail_result m c),
     ((h.1 c).2 main_arg0 (Pipeline.mem_restRefs_of main_arg0 (by decide) (by exact (by decide : ∀ w, Pipeline.arrRef spec0 w ≠ main_arg0)))).trans ((tail_other m c main_arg0 (by decide) (by decide)).trans (charges_kept m c)),
     ((h.1 c).2 main_arg1 (Pipeline.mem_restRefs_of main_arg1 (by decide) (by exact (by decide : ∀ w, Pipeline.arrRef spec0 w ≠ main_arg1)))).trans ((tail_other m c main_arg1 (by decide) (by decide)).trans (positions_kept m c))⟩, h.2⟩)
    (run_main m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run_result m ρ)

end Cert.KernelIdeal.Energy

end
-- ==== Proof.Value.Blocks.lean ====
/- What the blocks of a grid point hold: the coordinates and the charge of each of the point's 512 row positions, and
   of each of its 512 column positions. -/
module

public import proofs.«01_k».proof.Proof.Ideal.Result
public import Idealize.ShloMosaic.Lib.Pointwise
public import Idealize.ShloMosaic.Lib.Pipeline.ValueKit.Geometry

@[expose] public section

set_option maxRecDepth 16384

noncomputable section

namespace Cert.KernelIdeal.Energy

open Cert.KernelIdeal.Gen
open Idealize.ShloMosaic Idealize.ShloMosaic.TcCoe
open Idealize.SL.Sem

variable {F : FTy → Type} [FloatOps F]

variable (m : (ℓ : Loc nD τ sig) → Buf (Elt F) ℓ)

/-- The positions of core `c` as launched. -/
abbrev positions (c : Dev nD) : Vec F S2048x3 .f32 := m ((c : Thread nD τ).loc main_arg1)
/-- The charges of core `c` as launched. -/
abbrev charges (c : Dev nD) : Vec F S2048 .f32 := m ((c : Thread nD τ).loc main_arg0)

/-- The coordinates and the charge of position `i`, as one row of four. -/
def packed (c : Dev nD) (i : Fin 2048) (k : Fin 4) : F .f32 :=
  ![positions m c (ix2 i 0), positions m c (ix2 i 1), positions m c (ix2 i 2), charges m c (ix1 i)] k

/-- The row array of the call holds those rows, -/
theorem rowArray_apply (c : Dev nD) (i : Fin 2048) (k : Fin 4) : (bufAt m c main_call0_v1 : Vec F S2048x4 .f32) (ix2 i k) = packed m c i k := by
  have e : (bufAt m c main_call0_v1 : Vec F S2048x4 .f32) = concatenate S2048x4 1 [⟨S2048x3, positions m c⟩, ⟨S2048x1, broadcastInDim S2048x1 ![0] bcast_S2048_S2048x1_0 (charges m c)⟩] concatenates_S2048x3_S2048x1_S2048x4_d1 := by
    show StableHlo.after hostOps0 _ (Proc.devRef .tc main_call0_v1) = _
    after_results
    rfl
  rw [e]
  fin_cases k <;> pointwise [packed]

/-- and the column array holds them as columns. -/
theorem colArray_apply (c : Dev nD) (i : Fin 2048) (k : Fin 4) : (bufAt m c main_call0_v2 : Vec F S4x2048 .f32) (ix2 k i) = packed m c i k := by
  have e : (bufAt m c main_call0_v2 : Vec F S4x2048 .f32) = transpose S4x2048 [1, 0] (bufAt m c main_call0_v1 : Vec F S2048x4 .f32) transposes_S2048x4_S4x2048_1_0 := by
    show StableHlo.after hostOps0 _ (Proc.devRef .tc main_call0_v2) = transpose S4x2048 [1, 0] (StableHlo.after hostOps0 _ (Proc.devRef .tc main_call0_v1)) _
    after_results
    try rfl
  rw [e, ← rowArray_apply]
  pointwise

/-- The position a row of a point's row block is, -/
def rowPos (t : Fin (cfgT (F := F)).N) (p : Fin 512) : Fin 2048 :=
  ⟨(rowBlk (grid0.coords t)).toNat * 512 + p.val, by have : (rowBlk (grid0.coords t)).toNat < 4 := rows_lt _; omega⟩
/-- and the position a column of its column block is. -/
def colPos (t : Fin (cfgT (F := F)).N) (p : Fin 512) : Fin 2048 :=
  ⟨(colBlk (grid0.coords t)).toNat * 512 + p.val, by have : (colBlk (grid0.coords t)).toNat < 4 := cols_lt _; omega⟩

/-- An index of a row block lies in the array at the block's offset plus the index, -/
theorem rowBlock_emb (t : Fin (cfgT (F := F)).N) (y) (a : Fin 2) : ((((cfgT (F := F)).win 0).blk t).view.emb y a : Nat) =
    cc0_transform_0 k0_off1_inb numel1_S1 (tables (F := F)) (grid0.coords t) a * S512x4.size a + (y a : Nat) :=
  ValueKit.view_emb_slice_whole_unit_val _ _ _ _ _ _
/-- and so does one of a column block. -/
theorem colBlock_emb (t : Fin (cfgT (F := F)).N) (y) (a : Fin 2) : ((((cfgT (F := F)).win 1).blk t).view.emb y a : Nat) =
    cc0_transform_1 k0_off1_inb numel1_S1 (tables (F := F)) (grid0.coords t) a * S4x512.size a + (y a : Nat) :=
  ValueKit.view_emb_slice_whole_unit_val _ _ _ _ _ _

/-- The row block at an index. -/
theorem rowBlock_apply (c : Dev nD) (t : Fin (cfgT (F := F)).N) (p : Fin 512) (k : Fin 4) :
    (blockAt m c 0 t : Vec F S512x4 .f32) (ix2 p k) = packed m c (rowPos t p) k := by
  rw [← rowArray_apply]
  refine congrArg (bufAt m c main_call0_v1 : Vec F S2048x4 .f32) (funext fun a : Fin 2 => Fin.ext ((rowBlock_emb t (ix2 p k) a).trans ?_))
  rw [rows_at]
  match a with
  | 0 => rfl
  | 1 => exact Nat.zero_add _

/-- The column block at an index. -/
theorem colBlock_apply (c : Dev nD) (t : Fin (cfgT (F := F)).N) (k : Fin 4) (p : Fin 512) :
    (blockAt m c 1 t : Vec F S4x512 .f32) (ix2 k p) = packed m c (colPos t p) k := by
  rw [← colArray_apply]
  refine congrArg (bufAt m c main_call0_v2 : Vec F S4x2048 .f32) (funext fun a : Fin 2 => Fin.ext ((colBlock_emb t (ix2 k p) a).trans ?_))
  rw [cols_at]
  match a with
  | 0 => exact Nat.zero_add _
  | 1 => rfl

end Cert.KernelIdeal.Energy

end
-- ==== Proof.Value.Pair.lean ====
/- The energy of one pair of charges in units of the Coulomb constant, in the two ways the programs compute it, and
   that the two ways give one value once the squared distance is at least the kernel's floor. -/
module

public import Idealize.ShloMosaic.PureOps.Ideal
public import Idealize.ShloMosaic.PureOps.Ideal.Laws
public import Idealize.ShloMosaic.Lib.IdealHost

@[expose] public section

noncomputable section

namespace Cert.Energy

open Idealize.ShloMosaic

/-! ## The constants -/

/-- The kernel's floor under the squared distance. -/
abbrev sqFloor : EReal := Ideal.ofBits .f32 0x0DA24260#32
/-- The Coulomb constant of both programs. -/
abbrev coulomb : EReal := Ideal.ofBits .f32 0x43A6092A#32
/-- The distance at which the switch starts. -/
abbrev onDist : EReal := Ideal.ofBits .f32 0x40800000#32
/-- One half. -/
abbrev half : EReal := Ideal.ofBits .f32 0x3F000000#32
/-- Minus one. -/
abbrev negOne : EReal := Ideal.ofBits .f32 0xBF800000#32

/-- The floor is a positive real. -/
theorem sqFloor_pos : ∃ r : ℝ, 0 < r ∧ sqFloor = (r : EReal) :=
  ⟨(2 ^ 23 + 2245216 : ℕ) * (2 : ℝ) ^ (-123 : ℤ), by positivity, by
    simp [sqFloor, Ideal.ofBits, Ideal.ieee, -EReal.coe_mul]⟩
/-- The Coulomb constant is a positive real. -/
theorem coulomb_pos : ∃ r : ℝ, 0 < r ∧ coulomb = (r : EReal) :=
  ⟨(2 ^ 23 + 2492714 : ℕ) * (2 : ℝ) ^ (-15 : ℤ), by positivity, by
    simp [coulomb, Ideal.ofBits, Ideal.ieee, -EReal.coe_mul]⟩
/-- The switch starts at four. -/
theorem onDist_eq : onDist = ((4 : ℝ) : EReal) := by
  simp [onDist, Ideal.ofBits, Ideal.ieee, -EReal.coe_mul]; norm_num
/-- One half is one half. -/
theorem half_eq : half = ((1 / 2 : ℝ) : EReal) := by
  simp [half, Ideal.ofBits, Ideal.ieee, -EReal.coe_mul]; norm_num
/-- Minus one is minus one. -/
theorem negOne_eq : negOne = ((-1 : ℝ) : EReal) := by
  simp [negOne, Ideal.ofBits, Ideal.ieee, -EReal.coe_mul, -EReal.coe_neg]; norm_num

/-! ## The two ways -/

/-- The kernel's place on the switch, clipped to the unit interval, from the floored squared distance. -/
def ramp (f : EReal) : EReal := min 1 (max 0 (f * Ideal.rsqrt f - onDist))
/-- The kernel's switch at a place `a`: a shifted hyperbolic tangent. -/
def tanhSwitch (a : EReal) : EReal := half - half * Ideal.tanh (Ideal.div (a - half) (a - a * a))
/-- The kernel's weight of a pair: the damped inverse distance blended with the plain one. -/
def kernelWeight (f : EReal) : EReal :=
  tanhSwitch (ramp f) * (Ideal.rsqrt (f + 1) - Ideal.rsqrt f) + Ideal.rsqrt f
/-- The kernel's energy of a pair with charge product `z` and squared distance `s`. -/
def kernelPair (z s : EReal) : EReal := z * kernelWeight (max s sqFloor)

/-- The reference's smooth step: zero up to zero, then the exponential of minus the reciprocal. -/
def smooth (x : EReal) : EReal := if 0 < x then Ideal.exp (Ideal.div negOne (if 0 < x then x else 1)) else 0
/-- The reference's switch at a place `a`: a quotient of smooth steps. -/
def smoothSwitch (a : EReal) : EReal := Ideal.div (smooth (1 - a)) (smooth (1 - a) + smooth a)
/-- The reference's weight of a pair at distance `d`. -/
def refWeight (d : EReal) : EReal :=
  Ideal.div (smoothSwitch (Ideal.div (d - onDist) 1)) (Ideal.sqrt (d * d + 1))
    + Ideal.div (1 - smoothSwitch (Ideal.div (d - onDist) 1)) d
/-- The reference's energy of a pair, Coulomb constant included. -/
def refPair (z d : EReal) : EReal := coulomb * z * refWeight d

/-! ## Operations at reals -/

/-- Division of reals by a real other than zero, -/
theorem div_coe {x y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

/-- the exponential, -/
theorem exp_coe (x : ℝ) : Ideal.exp (x : EReal) = ((Real.exp x : ℝ) : EReal) := rfl
/-- the hyperbolic tangent, -/
theorem tanh_coe (x : ℝ) : Ideal.tanh (x : EReal) = ((Real.tanh x : ℝ) : EReal) := rfl
/-- the square root of a real not below zero, -/
theorem sqrt_coe {x : ℝ} (h : 0 ≤ x) : Ideal.sqrt (x : EReal) = ((Real.sqrt x : ℝ) : EReal) :=
  if_neg (not_lt.2 h)
/-- and the reciprocal square root of a positive real are those of the reals. -/
theorem rsqrt_coe {x : ℝ} (h : 0 < x) : Ideal.rsqrt (x : EReal) = (((Real.sqrt x)⁻¹ : ℝ) : EReal) :=
  (if_neg (not_lt.2 h.le)).trans (if_neg h.ne')

/-- The smooth step is zero up to zero, -/
theorem smooth_of_nonpos {x : EReal} (h : x ≤ 0) : smooth x = 0 := if_neg (not_lt.2 h)
/-- and a positive real past it. -/
theorem smooth_of_pos {x : ℝ} (h : 0 < x) : smooth (x : EReal) = ((Real.exp (-1 / x) : ℝ) : EReal) := by
  have h' : (0 : EReal) < (x : EReal) := by exact_mod_cast h
  unfold smooth
  rw [if_pos h', if_pos h', negOne_eq, div_coe h.ne', exp_coe]

/-! ## The switch -/

/-- Both switches as one real function of the place. -/
def fade (a : ℝ) : ℝ :=
  if a ≤ 0 then 1 else if 1 ≤ a then 0 else Real.exp (-1 / (1 - a)) / (Real.exp (-1 / (1 - a)) + Real.exp (-1 / a))

/-- The reference's switch is that function. -/
theorem smoothSwitch_coe (a : ℝ) : smoothSwitch (a : EReal) = ((fade a : ℝ) : EReal) := by
  have e1 : (1 : EReal) - (a : EReal) = ((1 - a : ℝ) : EReal) := by rw [EReal.coe_sub, EReal.coe_one]
  unfold smoothSwitch fade
  rw [e1]
  split_ifs with h0 h1
  · rw [smooth_of_pos (by linarith : 0 < 1 - a), smooth_of_nonpos (by exact_mod_cast h0), add_zero,
      div_coe (Real.exp_pos _).ne', div_self (Real.exp_pos _).ne']
  · have h2 : ((1 - a : ℝ) : EReal) ≤ 0 := by exact_mod_cast (by linarith : 1 - a ≤ 0)
    rw [smooth_of_nonpos h2, smooth_of_pos (by linarith : 0 < a), zero_add, ← EReal.coe_zero,
      div_coe (Real.exp_pos _).ne', _root_.zero_div]
  · push Not at h0 h1
    rw [smooth_of_pos (by linarith : 0 < 1 - a), smooth_of_pos h0, ← EReal.coe_add, div_coe (by positivity)]

/-- Inside the switch the shifted hyperbolic tangent is the quotient of exponentials. -/
theorem tanh_eq_quotient {a : ℝ} (h0 : 0 < a) (h1 : a < 1) :
    1 / 2 - 1 / 2 * Real.tanh ((a - 1 / 2) / (a - a * a))
      = Real.exp (-1 / (1 - a)) / (Real.exp (-1 / (1 - a)) + Real.exp (-1 / a)) := by
  have hb : 0 < 1 - a := by linarith
  have hne : a - a * a ≠ 0 := by have : 0 < a * (1 - a) := mul_pos h0 hb; nlinarith
  set v := (a - 1 / 2) / (a - a * a) with hv
  have e : -1 / a = -1 / (1 - a) + (v + v) := by
    rw [hv]; field_simp; ring
  have hp := Real.exp_pos v
  rw [Real.tanh_eq_sinh_div_cosh, Real.sinh_eq, Real.cosh_eq, e, Real.exp_add, Real.exp_add, Real.exp_neg]
  have hq := Real.exp_pos (-1 / (1 - a))
  field_simp
  ring

/-- The kernel's switch, at the clipped place, is that function too. -/
theorem tanhSwitch_clip (a : ℝ) : tanhSwitch (min 1 (max 0 (a : EReal))) = ((fade a : ℝ) : EReal) := by
  unfold tanhSwitch fade
  rw [half_eq]
  split_ifs with h0 h1
  · have e : min 1 (max 0 (a : EReal)) = 0 := by
      rw [max_eq_left (by exact_mod_cast h0)]; exact min_eq_right zero_le_one
    rw [e, mul_zero, sub_zero, zero_sub, ← EReal.coe_neg]
    have d : Ideal.div ((-(1 / 2) : ℝ) : EReal) 0 = ⊥ := by
      unfold Ideal.div
      rw [if_pos rfl, if_neg (by rw [not_lt]; exact_mod_cast (by norm_num : (-(1 / 2) : ℝ) ≤ 0))]
    rw [d, show Ideal.tanh ⊥ = ((-1 : ℝ) : EReal) by rw [EReal.coe_neg, EReal.coe_one]; rfl, ← EReal.coe_mul, ← EReal.coe_sub]
    norm_num
  · have e : min 1 (max 0 (a : EReal)) = ((1 : ℝ) : EReal) := by
      rw [max_eq_right (by exact_mod_cast (by linarith : (0 : ℝ) ≤ a)), EReal.coe_one]
      exact min_eq_left (by exact_mod_cast h1)
    rw [e, ← EReal.coe_mul, ← EReal.coe_sub, ← EReal.coe_sub]
    have d : Ideal.div ((1 - 1 / 2 : ℝ) : EReal) ((1 - 1 * 1 : ℝ) : EReal) = ⊤ := by
      unfold Ideal.div
      rw [if_pos (by norm_num), if_pos (by exact_mod_cast (by norm_num : (0 : ℝ) < 1 - 1 / 2))]
    rw [d, show Ideal.tanh ⊤ = ((1 : ℝ) : EReal) by rw [EReal.coe_one]; rfl, ← EReal.coe_mul, ← EReal.coe_sub]
    norm_num
  · push Not at h0 h1
    have e : min 1 (max 0 (a : EReal)) = (a : EReal) := by
      rw [max_eq_right (by exact_mod_cast h0.le)]
      exact min_eq_right (by exact_mod_cast h1.le)
    have hne : a - a * a ≠ 0 := by have : 0 < a * (1 - a) := mul_pos h0 (by linarith); nlinarith
    rw [e, ← EReal.coe_mul, ← EReal.coe_sub, ← EReal.coe_sub, div_coe hne, tanh_coe, ← EReal.coe_mul, ← EReal.coe_sub,
      tanh_eq_quotient h0 h1]

/-! ## The weight -/

/-- At a positive real squared distance the two weights are one. -/
theorem weight_coe {s : ℝ} (h : 0 < s) : refWeight (Ideal.sqrt (s : EReal)) = kernelWeight (s : EReal) := by
  have hd : 0 < Real.sqrt s := Real.sqrt_pos.2 h
  have hss : Real.sqrt s * Real.sqrt s = s := Real.mul_self_sqrt h.le
  have hr : s * (Real.sqrt s)⁻¹ = Real.sqrt s := by
    rw [← div_eq_mul_inv, div_eq_iff hd.ne', hss]
  have h1 : 0 < s + 1 := by linarith
  have hg : 0 < Real.sqrt (s + 1) := Real.sqrt_pos.2 h1
  have k : tanhSwitch (ramp (s : EReal)) = ((fade (Real.sqrt s - 4) : ℝ) : EReal) := by
    unfold ramp
    rw [rsqrt_coe h, ← EReal.coe_mul, hr, onDist_eq, ← EReal.coe_sub, tanhSwitch_clip]
  have r : smoothSwitch (Ideal.div (((Real.sqrt s : ℝ) : EReal) - onDist) 1) = ((fade (Real.sqrt s - 4) : ℝ) : EReal) := by
    rw [onDist_eq, ← EReal.coe_sub, ← EReal.coe_one, div_coe one_ne_zero, div_one, smoothSwitch_coe]
  unfold refWeight kernelWeight
  rw [k, sqrt_coe h.le, r, rsqrt_coe h]
  rw [← EReal.coe_mul, hss, ← EReal.coe_one, ← EReal.coe_add, sqrt_coe h1.le, rsqrt_coe h1]
  rw [← EReal.coe_sub, div_coe hg.ne', div_coe hd.ne', ← EReal.coe_sub, ← EReal.coe_mul, ← EReal.coe_add, ← EReal.coe_add]
  congr 1
  field_simp
  ring

/-- At an infinite distance both weights are zero. -/
theorem weight_top : refWeight (Ideal.sqrt ⊤) = kernelWeight ⊤ := by
  have d : Ideal.div (⊤ - onDist) 1 = ⊤ := by
    rw [onDist_eq, EReal.top_sub_coe]; unfold Ideal.div; rw [if_neg one_ne_zero]; simp
  have e : Ideal.exp (Ideal.div negOne ⊤) = 1 := by
    unfold Ideal.div
    rw [if_neg (by simp), EReal.inv_top, mul_zero, ← EReal.coe_zero, exp_coe, Real.exp_zero, EReal.coe_one]
  have sw : smoothSwitch ⊤ = 0 := by
    unfold smoothSwitch
    rw [smooth_of_nonpos (by rw [EReal.sub_top]; exact bot_le)]
    rw [show smooth ⊤ = 1 by unfold smooth; rw [if_pos (by simp), if_pos (by simp), e], zero_add]
    exact Ideal.zero_div one_ne_zero
  have t : (⊤ : EReal) * ⊤ + 1 = ⊤ := by rw [EReal.top_mul_top]; exact EReal.top_add_coe 1
  have l : refWeight (Ideal.sqrt ⊤) = 0 := by
    unfold refWeight
    rw [show Ideal.sqrt ⊤ = ⊤ from rfl, d, sw, t, show Ideal.sqrt ⊤ = ⊤ from rfl, sub_zero]
    unfold Ideal.div
    simp
  have u : (⊤ : EReal) + 1 = ⊤ := EReal.top_add_coe 1
  rw [l]
  unfold kernelWeight
  rw [u, show Ideal.rsqrt ⊤ = 0 from rfl]
  simp

/-- The two energies of a pair agree once the squared distance is at least the kernel's floor. -/
theorem pair_eq {z s : EReal} (h : sqFloor ≤ s) : refPair z (Ideal.sqrt s) = coulomb * kernelPair z s := by
  obtain ⟨e, he, hf⟩ := sqFloor_pos
  have w : refWeight (Ideal.sqrt s) = kernelWeight s := by
    induction s with
    | bot => rw [hf] at h; exact absurd h (by simp)
    | top => exact weight_top
    | coe r => exact weight_coe (lt_of_lt_of_le he (by rw [hf] at h; exact_mod_cast h))
  unfold refPair kernelPair
  rw [max_eq_left h, w, mul_assoc]

/-- A pair with no charge has no energy, in the reference -/
theorem refPair_zero (d : EReal) : refPair 0 d = 0 := by unfold refPair; rw [mul_zero, zero_mul]
/-- and in the kernel. -/
theorem kernelPair_zero (s : EReal) : kernelPair 0 s = 0 := by unfold kernelPair; rw [zero_mul]

end Cert.Energy

end
-- ==== Proof.Value.Tile.lean ====
/- What one grid point adds to the running sum: the Coulomb constant times the sum of the kernel's pair energies over
   the tile, over its strict upper triangle when the tile is on the diagonal. -/
module

public import proofs.«01_k».proof.Proof.Ideal.Launch
public import proofs.«01_k».proof.Proof.Value.Pair
public import Idealize.ShloMosaic.Lib.Affine
public import Idealize.ShloMosaic.Lib.Pointwise

@[expose] public section

noncomputable section

namespace Cert.KernelIdeal.Energy

open Cert.KernelIdeal.Gen Cert.Energy
open Idealize.ShloMosaic

/-- The squared distance of row `p` of a row block and column `q` of a column block. -/
def tileSq (x0 : Vec Ideal S512x4 .f32) (x1 : Vec Ideal S4x512 .f32) (p q : Fin 512) : EReal :=
  (x0 (ix2 p 0) - x1 (ix2 0 q)) * (x0 (ix2 p 0) - x1 (ix2 0 q)) + (x0 (ix2 p 1) - x1 (ix2 1 q)) * (x0 (ix2 p 1) - x1 (ix2 1 q))
    + (x0 (ix2 p 2) - x1 (ix2 2 q)) * (x0 (ix2 p 2) - x1 (ix2 2 q))

/-- The kernel's energy of that pair. -/
def tilePair (x0 : Vec Ideal S512x4 .f32) (x1 : Vec Ideal S4x512 .f32) (p q : Fin 512) : EReal :=
  kernelPair (x0 (ix2 p 3) * x1 (ix2 3 q)) (tileSq x0 x1 p q)

/-- The floored squared distances of a tile on the diagonal, -/
theorem floored_diag (x0 : Vec Ideal S512x4 .f32) (x1 : Vec Ideal S4x512 .f32) (p q : Fin 512) :
    k0_pay8 (F := Ideal) x0 x1 (ix2 p q) = max (tileSq x0 x1 p q) sqFloor := by
  pointwise [k0_pay8, tileSq]
/-- and off it. -/
theorem floored_off (x0 : Vec Ideal S512x4 .f32) (x1 : Vec Ideal S4x512 .f32) (p q : Fin 512) :
    k0_pay13 (F := Ideal) x0 x1 (ix2 p q) = max (tileSq x0 x1 p q) sqFloor := by
  pointwise [k0_pay13, tileSq]

/-- The charge products of a tile. -/
theorem charges_off (x0 : Vec Ideal S512x4 .f32) (x1 : Vec Ideal S4x512 .f32) (p q : Fin 512) :
    k0_pay12 (F := Ideal) x0 x1 (ix2 p q) = x0 (ix2 p 3) * x1 (ix2 3 q) := by
  pointwise [k0_pay12]

/-- Comparing two coordinates of a tile as words compares them. -/
theorem coord_gt (p q : Fin 512) : IntOp.cmpi .sgt (BitVec.ofNat 32 q.val) (BitVec.ofNat 32 p.val) = if p < q then 1#1 else 0#1 := by
  have hp : p.val < 2 ^ 31 := by omega
  have hq : q.val < 2 ^ 31 := by omega
  have e : IntOp.cmpi .sgt (BitVec.ofNat 32 q.val) (BitVec.ofNat 32 p.val) = 1#1 ↔ p < q := by
    rw [IntOp.cmpi_sgt, WordCmp.toInt_ofNat_of_lt hp, WordCmp.toInt_ofNat_of_lt hq]
    exact Int.ofNat_lt
  split_ifs with h
  · exact e.2 h
  · exact (BitVec.eq_zero_or_eq_one _).resolve_right (fun o => h (e.1 o))

/-- The charge products of a tile on the diagonal: zero on and below it. -/
theorem charges_diag (x0 : Vec Ideal S512x4 .f32) (x1 : Vec Ideal S4x512 .f32) (p q : Fin 512) :
    k0_pay7 (F := Ideal) x0 x1 (ix2 p q) = if p < q then x0 (ix2 p 3) * x1 (ix2 3 q) else 0 := by
  pointwise [k0_pay7]
  rw [coord_gt]
  split_ifs <;> rfl

/-- What a point off the diagonal adds. -/
theorem addOff_apply (x0 : Vec Ideal S512x4 .f32) (x1 : Vec Ideal S4x512 .f32) (acc : Vec Ideal S1x1 .f32) (j : S1x1.Idx) :
    addOff x0 x1 acc j = acc j + coulomb * ∑ p : Fin 512, ∑ q : Fin 512, tilePair x0 x1 p q := by
  unfold addOff
  rw [show k0_pay1 x0 = x0 from shapeCast_self _ _, show k0_pay2 x1 = x1 from shapeCast_self _ _, show k0_pay11 acc = acc from shapeCast_self _ _]
  pointwise [k0_pay5, k0_pay15, k0_pay16, k0_pay14, floored_off, charges_off]
  rfl

/-- What a point on the diagonal adds. -/
theorem addDiag_apply (x0 : Vec Ideal S512x4 .f32) (x1 : Vec Ideal S4x512 .f32) (acc : Vec Ideal S1x1 .f32) (j : S1x1.Idx) :
    addDiag x0 x1 acc j = acc j + coulomb * ∑ p : Fin 512, ∑ q : Fin 512, if p < q then tilePair x0 x1 p q else 0 := by
  unfold addDiag
  rw [show k0_pay1 x0 = x0 from shapeCast_self _ _, show k0_pay2 x1 = x1 from shapeCast_self _ _, show k0_pay6 acc = acc from shapeCast_self _ _]
  pointwise [k0_pay4, k0_pay9, k0_pay10, floored_diag, charges_diag]
  refine congrArg (fun e => acc j + coulomb * e) (Finset.sum_congr rfl fun p _ => Finset.sum_congr rfl fun q _ => ?_)
  split_ifs
  · rfl
  · exact zero_mul _

end Cert.KernelIdeal.Energy

end
-- ==== Proof.Value.Reference.lean ====
/- What the reference computes: the sum over all ordered pairs of positions of the pair's energy, counted when the
   second index is past the first and the squared distance is positive. -/
module

public import proofs.«01_k».proof.Proof.Gen.ReferenceIdeal.Run
public import proofs.«01_k».proof.Proof.Value.Pair
public import Idealize.ShloMosaic.Lib.Affine
public import Idealize.ShloMosaic.Lib.WordCmp
public import Idealize.ShloMosaic.Lib.Pointwise

@[expose] public section

noncomputable section

namespace Cert.ReferenceIdeal.Energy

open Cert.ReferenceIdeal Cert.ReferenceIdeal.Gen Cert.Energy
open Idealize.ShloMosaic Idealize.ShloMosaic.TcCoe

/-! ## The reference's arrays, one by one -/

variable (q : FVec Ideal S2048 .f32) (xyz : FVec Ideal S2048x3 .f32)

/-- A scalar constant spread over all pairs. -/
abbrev spread (b : BitVec 32) : FVec Ideal S2048x2048 .f32 :=
  broadcastInDim S2048x2048 ![] bcast_S_S2048x2048 (constant S_ .f32 b)

/-- The differences of the coordinates of every two positions. -/
def diffs : FVec Ideal S2048x2048x3 .f32 :=
  subf (broadcastInDim S2048x2048x3 ![0, 1, 2] bcast_S2048x1x3_S2048x2048x3_0_1_2 (broadcastInDim S2048x1x3 ![0, 2] bcast_S2048x3_S2048x1x3_0_2 xyz))
    (broadcastInDim S2048x2048x3 ![0, 1, 2] bcast_S1x2048x3_S2048x2048x3_0_1_2 (broadcastInDim S1x2048x3 ![1, 2] bcast_S2048x3_S1x2048x3_1_2 xyz))
/-- Their squared distances. -/
def squares : FVec Ideal S2048x2048 .f32 :=
  Host.reduceAdd (mulf (diffs xyz) (diffs xyz)) (constant S_ .f32 0x00000000#32) reducesTo_S2048x2048x3_S2048x2048_d2 h_S_
/-- Which pairs count. -/
def counted : IVec S2048x2048 1 :=
  andi (select (cmpi .sge (addi (iotaInDim S2048x2048 32 0) (broadcastInDim S2048x2048 ![] bcast_S_S2048x2048 (constantI S_ 32 0#32))) (iotaInDim S2048x2048 32 1))
      (broadcastInDim S2048x2048 ![] bcast_S_S2048x2048 (constantI S_ 1 0#1)) (broadcastInDim S2048x2048 ![] bcast_S_S2048x2048 (constantI S_ 1 1#1)))
    (cmpf .ogt (squares xyz) (spread 0x00000000#32))
/-- The distances, one where a pair does not count. -/
def dists : FVec Ideal S2048x2048 .f32 := Host.sqrt (select (counted xyz) (squares xyz) (spread 0x3F800000#32))
/-- The smooth step, at every place of an array. -/
def smooths (x : FVec Ideal S2048x2048 .f32) : FVec Ideal S2048x2048 .f32 :=
  select (cmpf .ogt x (spread 0x00000000#32)) (Host.exp (Host.divf (spread 0xBF800000#32) (select (cmpf .ogt x (spread 0x00000000#32)) x (spread 0x3F800000#32)))) (spread 0x00000000#32)
/-- The places on the switch. -/
def places : FVec Ideal S2048x2048 .f32 := Host.divf (subf (dists xyz) (spread 0x40800000#32)) (spread 0x3F800000#32)
/-- The switches. -/
def switches : FVec Ideal S2048x2048 .f32 :=
  Host.divf (smooths (subf (spread 0x3F800000#32) (places xyz))) (addf (smooths (subf (spread 0x3F800000#32) (places xyz))) (smooths (places xyz)))
/-- The products of every two charges. -/
def products : FVec Ideal S2048x2048 .f32 :=
  mulf (broadcastInDim S2048x2048 ![0, 1] bcast_S2048x1_S2048x2048_0_1 (broadcastInDim S2048x1 ![0] bcast_S2048_S2048x1_0 q))
    (broadcastInDim S2048x2048 ![0, 1] bcast_S1x2048_S2048x2048_0_1 (broadcastInDim S1x2048 ![1] bcast_S2048_S1x2048_1 q))
/-- The energies, zero where a pair does not count. -/
def energies : FVec Ideal S2048x2048 .f32 :=
  select (counted xyz)
    (mulf (mulf (spread 0x43A6092A#32) (products q))
      (addf (Host.divf (switches xyz) (Host.sqrt (addf (mulf (dists xyz) (dists xyz)) (spread 0x3F800000#32))))
        (Host.divf (subf (spread 0x3F800000#32) (switches xyz)) (dists xyz))))
    (spread 0x00000000#32)

set_option maxRecDepth 8192 in
/-- The reference's result is the sum of those energies. -/
theorem result_eq (m : (ℓ : Loc nD τ sig) → Buf (Elt Ideal) ℓ) (c : Dev nD) :
    Value.res_main_v58 m c = Host.reduceAdd (energies (m ((c.tc : Thread nD τ).loc main_arg0)) (m ((c.tc : Thread nD τ).loc main_arg1)))
      (constant S_ .f32 0x00000000#32) reducesTo_S2048x2048_S_d0_1 h_S_ := by
  unfold Value.res_main_v58
  rfl

/-! ## The arrays at a pair -/

/-- The squared distance of positions `i` and `j`. -/
def sq (i j : Fin 2048) : EReal :=
  (xyz (ix2 i 0) - xyz (ix2 j 0)) * (xyz (ix2 i 0) - xyz (ix2 j 0)) + (xyz (ix2 i 1) - xyz (ix2 j 1)) * (xyz (ix2 i 1) - xyz (ix2 j 1))
    + (xyz (ix2 i 2) - xyz (ix2 j 2)) * (xyz (ix2 i 2) - xyz (ix2 j 2))

/-- The squared distance at a pair. -/
theorem squares_apply (i j : Fin 2048) : squares xyz (ix2 i j) = sq xyz i j := by
  pointwise [squares, diffs]
  rw [Fin.sum_univ_three]
  rfl

/-- Comparing two positions' numbers as words compares them. -/
theorem number_ge (i j : Fin 2048) : IntOp.cmpi .sge (BitVec.ofNat 32 i.val) (BitVec.ofNat 32 j.val) = 1#1 ↔ j ≤ i := by
  have hi : i.val < 2 ^ 31 := by omega
  have hj : j.val < 2 ^ 31 := by omega
  rw [IntOp.cmpi_sge, WordCmp.toInt_ofNat_of_lt hj, WordCmp.toInt_ofNat_of_lt hi]
  exact Int.ofNat_le

/-- A pair counts when it is in order and its squared distance is positive. -/
theorem counted_apply (i j : Fin 2048) : counted xyz (ix2 i j) = 1#1 ↔ i < j ∧ 0 < sq xyz i j := by
  pointwise [counted, squares_apply]
  have e : IntOp.addi (BitVec.ofNat 32 i.val) 0#32 = BitVec.ofNat 32 i.val := BitVec.add_zero _
  have o : ∀ b : Bool, BitVec.ofBool b = 1#1 ↔ b = true := by decide
  have s : ∀ b : BitVec 1, Scalar.select b 0#1 1#1 = 1#1 ↔ ¬ b = 1#1 := by decide
  rw [IntOp.andi_eq_one, e, s, number_ge, not_le, o, decide_eq_true_iff]

/-- The distance of a pair that counts. -/
theorem dists_apply {i j : Fin 2048} (h : i < j ∧ 0 < sq xyz i j) : dists xyz (ix2 i j) = Ideal.sqrt (sq xyz i j) := by
  pointwise [dists, squares_apply]
  rw [(counted_apply xyz i j).2 h]
  rfl

/-- The smooth step at a pair. -/
theorem smooths_apply (x : FVec Ideal S2048x2048 .f32) (i j : Fin 2048) : smooths x (ix2 i j) = smooth (x (ix2 i j)) := by
  pointwise [smooths]
  rfl

/-- The switch at a pair. -/
theorem switches_apply (i j : Fin 2048) :
    switches xyz (ix2 i j) = smoothSwitch (Ideal.div (dists xyz (ix2 i j) - onDist) 1) := by
  pointwise [switches, places, smooths_apply]
  rfl

/-- The energy at a pair. -/
theorem energies_apply (i j : Fin 2048) :
    energies q xyz (ix2 i j) = if i < j ∧ 0 < sq xyz i j then refPair (q (ix1 i) * q (ix1 j)) (Ideal.sqrt (sq xyz i j)) else 0 := by
  pointwise [energies, products, switches_apply]
  split_ifs with h
  · rw [(counted_apply xyz i j).2 h, dists_apply xyz h]
    rfl
  · rw [(BitVec.eq_zero_or_eq_one _).resolve_right (fun o => h ((counted_apply xyz i j).1 o))]
    rfl

/-- The reference's result: the energies of the counted pairs, summed. -/
theorem result_apply (m : (ℓ : Loc nD τ sig) → Buf (Elt Ideal) ℓ) (c : Dev nD) (k : S_.Idx) :
    Value.res_main_v58 m c k = ∑ i : Fin 2048, ∑ j : Fin 2048,
      energies (m ((c.tc : Thread nD τ).loc main_arg0)) (m ((c.tc : Thread nD τ).loc main_arg1)) (ix2 i j) := by
  rw [result_eq]
  pointwise

end Cert.ReferenceIdeal.Energy

end
-- ==== Proof.Value.Total.lean ====
/- What the ten grid points add up to: the energies of all pairs whose second position is past the first, over all
   positions. The ten tiles are those on and above the diagonal; below it no pair counts. -/
module

public import proofs.«01_k».proof.Proof.Value.Blocks
public import proofs.«01_k».proof.Proof.Value.Tile
public import proofs.«01_k».proof.Proof.Value.Reference

@[expose] public section

set_option maxRecDepth 16384

noncomputable section

namespace Cert.KernelIdeal.Energy

open Cert.KernelIdeal.Gen Cert.Energy
open Idealize.ShloMosaic Idealize.ShloMosaic.TcCoe
open Cert.ReferenceIdeal.Energy (sq)

/-! ## Constants in and out of sums -/

/-- The Coulomb constant goes into a sum, -/
theorem coulomb_mul_sum {ι : Type} (s : Finset ι) (f : ι → EReal) : coulomb * ∑ i ∈ s, f i = ∑ i ∈ s, coulomb * f i := by
  obtain ⟨r, hr, e⟩ := coulomb_pos
  classical
  induction s using Finset.induction_on with
  | empty => rw [Finset.sum_empty, Finset.sum_empty, mul_zero]
  | insert a s ha ih =>
    rw [Finset.sum_insert ha, Finset.sum_insert ha, ← ih, e]
    exact EReal.left_distrib_of_nonneg_of_ne_top (by exact_mod_cast hr.le) (EReal.coe_ne_top r) _ _
/-- and into a sum of sums. -/
theorem coulomb_mul_sum_sum {n k : ℕ} (f : Fin n → Fin k → EReal) :
    coulomb * ∑ p, ∑ q, f p q = ∑ p, ∑ q, coulomb * f p q := by
  rw [coulomb_mul_sum]; exact Finset.sum_congr rfl fun p _ => coulomb_mul_sum _ _

/-! ## Tiles of the pairs -/

/-- Position `p` of block `a`. -/
def pos (a : Fin 4) (p : Fin 512) : Fin 2048 := ⟨a.val * 512 + p.val, by omega⟩

/-- The sum of `f` over the pairs of tile `a`, `b`. -/
def tileSum (f : Fin 2048 → Fin 2048 → EReal) (a b : Fin 4) : EReal := ∑ p : Fin 512, ∑ q : Fin 512, f (pos a p) (pos b q)

/-- A sum over the positions is the sum over the blocks and over the places in a block. -/
theorem sum_pos (f : Fin 2048 → EReal) : ∑ i, f i = ∑ a : Fin 4, ∑ p : Fin 512, f (pos a p) := by
  rw [← Fintype.sum_prod_type' (f := fun a p => f (pos a p))]
  refine (Fintype.sum_equiv (finProdFinEquiv (m := 4) (n := 512)) _ _ fun x => congrArg f (Fin.ext ?_)).symm
  show x.1.val * 512 + x.2.val = x.2.val + 512 * x.1.val
  omega

/-- A sum over the pairs is the sum over the tiles. -/
theorem sum_tiles (f : Fin 2048 → Fin 2048 → EReal) : ∑ i, ∑ j, f i j = ∑ a : Fin 4, ∑ b : Fin 4, tileSum f a b := by
  rw [sum_pos]
  refine Finset.sum_congr rfl fun a _ => ?_
  simp only [sum_pos (f _)]
  exact Finset.sum_comm

/-- A tile below the diagonal adds nothing when only pairs in order count. -/
theorem tileSum_below {f : Fin 2048 → Fin 2048 → EReal} (h : ∀ i j, ¬ i < j → f i j = 0) {a b : Fin 4} (hab : b < a) : tileSum f a b = 0 :=
  Finset.sum_eq_zero fun p _ => Finset.sum_eq_zero fun q _ => h _ _ fun o => by
    have h1 : a.val * 512 + p.val < b.val * 512 + q.val := o
    have h2 : b.val < a.val := hab
    omega

/-- So the pairs in order are those of the ten tiles on and above the diagonal. -/
theorem sum_upper {f : Fin 2048 → Fin 2048 → EReal} (h : ∀ i j, ¬ i < j → f i j = 0) :
    ∑ i, ∑ j, f i j = tileSum f 0 0 + tileSum f 0 1 + tileSum f 0 2 + tileSum f 0 3 + tileSum f 1 1 + tileSum f 1 2 + tileSum f 1 3
      + tileSum f 2 2 + tileSum f 2 3 + tileSum f 3 3 := by
  rw [sum_tiles]
  simp only [Fin.sum_univ_four]
  rw [tileSum_below h (show (0 : Fin 4) < 1 by decide), tileSum_below h (show (0 : Fin 4) < 2 by decide), tileSum_below h (show (1 : Fin 4) < 2 by decide),
    tileSum_below h (show (0 : Fin 4) < 3 by decide), tileSum_below h (show (1 : Fin 4) < 3 by decide), tileSum_below h (show (2 : Fin 4) < 3 by decide)]
  simp only [zero_add, add_assoc]

/-! ## The points' tiles -/

variable (m : (ℓ : Loc nD τ sig) → Buf (Elt Ideal) ℓ)

/-- The kernel's energy of a pair, Coulomb constant included; zero unless the positions are in order. -/
def ordered (c : Dev nD) (i j : Fin 2048) : EReal :=
  if i < j then coulomb * kernelPair (charges m c (ix1 i) * charges m c (ix1 j)) (sq (positions m c) i j) else 0

/-- The kernel's energy of a row and a column of a point's blocks is that of the two positions. -/
theorem tilePair_eq (c : Dev nD) (t : Fin (cfgT (F := Ideal)).N) (p q : Fin 512) :
    tilePair (blockAt m c 0 t) (blockAt m c 1 t) p q
      = kernelPair (charges m c (ix1 (rowPos t p)) * charges m c (ix1 (colPos t q))) (sq (positions m c) (rowPos t p) (colPos t q)) := by
  unfold tilePair tileSq
  simp only [rowBlock_apply m c t p, colBlock_apply m c t _ q]
  rfl

/-- The row block of a point, -/
def rowTile (t : Fin (cfgT (F := Ideal)).N) : Fin 4 := ⟨(rowBlk (grid0.coords t)).toNat, rows_lt _⟩
/-- and its column block. -/
def colTile (t : Fin (cfgT (F := Ideal)).N) : Fin 4 := ⟨(colBlk (grid0.coords t)).toNat, cols_lt _⟩

/-- No point's tile lies below the diagonal. -/
theorem rows_le_cols : ∀ k : Fin 10, (lit0 k).toNat ≤ (lit1 k).toNat := by decide

/-- A point adds the energies of its tile's pairs in order. -/
theorem sumTo_add (c : Dev nD) (t : Fin (cfgT (F := Ideal)).N) (j : S1x1.Idx) :
    sumTo m c (t.val + 1) j = sumTo m c t.val j + tileSum (ordered m c) (rowTile t) (colTile t) := by
  rw [sumTo_succ]
  by_cases h : rowBlk (grid0.coords t) = colBlk (grid0.coords t)
  · rw [step_diag h, addDiag_apply, coulomb_mul_sum_sum]
    refine congrArg _ (Finset.sum_congr rfl fun p _ => Finset.sum_congr rfl fun q _ => ?_)
    have o : p < q ↔ rowPos t p < colPos t q := by
      show p.val < q.val ↔ (rowBlk (grid0.coords t)).toNat * 512 + p.val < (colBlk (grid0.coords t)).toNat * 512 + q.val
      rw [h]; omega
    show coulomb * _ = if rowPos t p < colPos t q then _ else _
    rw [tilePair_eq, mul_ite, mul_zero]
    exact if_congr o rfl rfl
  · rw [step_off h, addOff_apply, coulomb_mul_sum_sum]
    refine congrArg _ (Finset.sum_congr rfl fun p _ => Finset.sum_congr rfl fun q _ => ?_)
    have o : rowPos t p < colPos t q := by
      have h1 : (rowBlk (grid0.coords t)).toNat ≤ (colBlk (grid0.coords t)).toNat := rows_le_cols _
      have h2 : (rowBlk (grid0.coords t)).toNat ≠ (colBlk (grid0.coords t)).toNat := fun e => h (BitVec.eq_of_toNat_eq e)
      show (rowBlk (grid0.coords t)).toNat * 512 + p.val < (colBlk (grid0.coords t)).toNat * 512 + q.val
      omega
    rw [tilePair_eq]
    exact (if_pos o).symm

/-- Point `k` adds tile `a`, `b`, when its tables say so. -/
theorem sumTo_tile (c : Dev nD) (j : S1x1.Idx) (k : ℕ) (hk : k < 10) (a b : Fin 4)
    (ha : (lit0 ⟨k, hk⟩).toNat = a.val) (hb : (lit1 ⟨k, hk⟩).toNat = b.val) :
    sumTo m c (k + 1) j = sumTo m c k j + tileSum (ordered m c) a b := by
  have hN : k < (cfgT (F := Ideal)).N := by rw [show (cfgT (F := Ideal)).N = 10 from N_0]; exact hk
  have e : grid0.coords (⟨k, hN⟩ : Fin (cfgT (F := Ideal)).N) 0 = ⟨k, hk⟩ := Fin.ext (point_coord (F := Ideal) ⟨k, hN⟩)
  have er : rowTile ⟨k, hN⟩ = a := Fin.ext ((congrArg (fun i => (lit0 i).toNat) e).trans ha)
  have ec : colTile ⟨k, hN⟩ = b := Fin.ext ((congrArg (fun i => (lit1 i).toNat) e).trans hb)
  rw [sumTo_add m c ⟨k, hN⟩ j, er, ec]

/-- The kernel's total: the energies of all pairs in order. -/
theorem total_apply (c : Dev nD) (j : S1x1.Idx) : total m c j = ∑ i : Fin 2048, ∑ k : Fin 2048, ordered m c i k := by
  rw [sum_upper (f := ordered m c) fun i k h => if_neg h]
  have z : sumTo m c 0 j = 0 := by
    show k0_pay3 (F := Ideal) j = 0
    pointwise [k0_pay3]
  unfold total
  rw [sumTo_tile m c j 9 (by decide) 3 3 rfl rfl, sumTo_tile m c j 8 (by decide) 2 3 rfl rfl, sumTo_tile m c j 7 (by decide) 2 2 rfl rfl,
    sumTo_tile m c j 6 (by decide) 1 3 rfl rfl, sumTo_tile m c j 5 (by decide) 1 2 rfl rfl, sumTo_tile m c j 4 (by decide) 1 1 rfl rfl,
    sumTo_tile m c j 3 (by decide) 0 3 rfl rfl, sumTo_tile m c j 2 (by decide) 0 2 rfl rfl, sumTo_tile m c j 1 (by decide) 0 1 rfl rfl,
    sumTo_tile m c j 0 (by decide) 0 0 rfl rfl, z, zero_add]

end Cert.KernelIdeal.Energy

end
-- ==== Proof.Value.Equation.lean ====
/- The kernel's total is the reference's result, for charges and positions as the precondition admits them. -/
module

public import proofs.«01_k».proof.Proof.Gen.Pre_separated
public import proofs.«01_k».proof.Proof.Value.Total

@[expose] public section

set_option maxRecDepth 16384

noncomputable section

namespace Cert.KernelIdeal.Energy

open Cert.KernelIdeal.Gen Cert.Energy
open Idealize.ShloMosaic Idealize.ShloMosaic.TcCoe
open Cert.ReferenceIdeal.Energy (sq squares squares_apply products number_ge energies energies_apply)

/-- What the precondition says of a pair: its squared distance is at least the floor, or its charges have product zero,
    or it is not in order. -/
theorem separated_apply (q : FVec Ideal S2048 .f32) (xyz : FVec Ideal S2048x3 .f32)
    (h : Cert.Pre_separated.fn q xyz = fun _ => 1#1) (i j : Fin 2048) :
    sqFloor ≤ sq xyz i j ∨ q (ix1 i) * q (ix1 j) = 0 ∨ j ≤ i := by
  have e : Cert.Pre_separated.fn q xyz = ori (ori (cmpf .oge (squares xyz) (Cert.ReferenceIdeal.Energy.spread 0x0DA24260#32))
      (cmpf .oeq (products q) (Cert.ReferenceIdeal.Energy.spread 0x00000000#32)))
      (cmpi .sle (iotaInDim Cert.ReferenceIdeal.S2048x2048 32 1) (iotaInDim Cert.ReferenceIdeal.S2048x2048 32 0)) := rfl
  have a := congrFun (e.symm.trans h) (ix2 i j)
  revert a
  pointwise [squares_apply, products]
  have o : ∀ b : Bool, BitVec.ofBool b = 1#1 ↔ b = true := by decide
  have hi : i.val < 2 ^ 31 := by omega
  have hj : j.val < 2 ^ 31 := by omega
  rw [IntOp.ori_eq_one, IntOp.ori_eq_one, o, o, IntOp.cmpi_sle, WordCmp.toInt_ofNat_of_lt hj, WordCmp.toInt_ofNat_of_lt hi,
    decide_eq_true_iff, decide_eq_true_iff]
  rintro ((a | a) | a)
  · exact .inl a
  · exact .inr (.inl a)
  · exact .inr (.inr (Int.ofNat_le.1 a))

variable (m : (ℓ : Loc nD τ sig) → Buf (Elt Ideal) ℓ)

/-- Every pair has the same energy in the kernel and in the reference. -/
theorem ordered_eq (c : Dev nD) (h : Cert.Pre_separated.fn (charges m c) (positions m c) = fun _ => 1#1) (i j : Fin 2048) :
    ordered m c i j = energies (charges m c) (positions m c) (ix2 i j) := by
  rw [energies_apply]
  unfold ordered
  by_cases o : i < j
  · rw [if_pos o]
    rcases separated_apply _ _ h i j with s | z | n
    · obtain ⟨r, hr, e⟩ := sqFloor_pos
      have p : 0 < sq (positions m c) i j := lt_of_lt_of_le (by rw [e]; exact_mod_cast hr) s
      rw [if_pos ⟨o, p⟩, pair_eq s]
    · rw [z, kernelPair_zero, mul_zero, refPair_zero, ite_self]
    · exact absurd o (not_lt.2 n)
  · rw [if_neg o, if_neg fun a => o a.1]

/-- The kernel's total is the sum of the reference's energies. -/
theorem total_eq (c : Dev nD) (h : Cert.Pre_separated.fn (charges m c) (positions m c) = fun _ => 1#1) (k : S1x1.Idx) :
    total m c k = ∑ i : Fin 2048, ∑ j : Fin 2048, energies (charges m c) (positions m c) (ix2 i j) := by
  rw [total_apply]
  exact Finset.sum_congr rfl fun i _ => Finset.sum_congr rfl fun j _ => ordered_eq m c h i j

end Cert.KernelIdeal.Energy

end
-- ==== Proof.lean ====
/- The proof of the five claims: the kernel as printed, the idealized kernel and the reference end with their arguments
   unchanged and every counter at zero; the idealized kernel is the printed one idealized; and the
   idealized kernel's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_separated
public import proofs.«01_k».proof.Proof.Bits.Result
public import proofs.«01_k».proof.Proof.Ideal.Result
public import proofs.«01_k».proof.Proof.Value.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel as printed ends, with its arguments unchanged and its counters at zero. -/
theorem kernel_frame : Cert.quiescent_Kernel (hKernel := Cert.Kernel.Gen.facts) :=
  fun m g _ => Cert.Kernel.Energy.frame (F := Bits) m g

/-- So does the idealized kernel, -/
theorem ideal_frame : Cert.quiescent_KernelIdeal (hKernelIdeal := Cert.KernelIdeal.Gen.facts) :=
  fun m g _ => Cert.KernelIdeal.Energy.frame (F := Ideal) m g

/-- and the reference, which declares no counter at all. -/
theorem reference_frame : Cert.quiescent_ReferenceIdeal (hReferenceIdeal := Cert.ReferenceIdeal.Gen.facts) :=
  fun m g _ => (θ_run _ _ _).mono (fun _ h => ⟨fun c => (h c).2, sem_eq_zero_of_no_sems rfl _⟩)
    (Cert.ReferenceIdeal.Value.run (F := Ideal) m g)

/-- The idealized kernel and the reference, launched on the same charges and positions, leave the same energy: the
    kernel's total is the sum of the reference's energies. -/
theorem same_energy : Cert.algebraic_KernelIdeal_ReferenceIdeal_pre_separated (hKernelIdeal := Cert.KernelIdeal.Gen.facts)
    (hReferenceIdeal := Cert.ReferenceIdeal.Gen.facts) (hPre_separated := Cert.Pre_separated.Gen.facts) := by
  intro m g m' g' pre args
  refine ⟨fun c => fun _ => Cert.KernelIdeal.Energy.total m c Cert.KernelIdeal.Energy.cell,
    (θ_run _ _ _).mono (fun _ h => h.1) (Cert.KernelIdeal.Energy.run_result m g),
    (θ_run _ _ _).mono (fun _ h c => ⟨(h c).1.trans ?_, (h c).2⟩) (Cert.ReferenceIdeal.Value.run (F := Ideal) m' g')⟩
  funext k
  rw [Cert.ReferenceIdeal.Energy.result_apply, (args c).1, (args c).2]
  exact (Cert.KernelIdeal.Energy.total_eq m c (pre c) _).symm

/-- All five claims. -/
theorem claim : Cert.Claim := ⟨Cert.Kernel.Gen.facts, Cert.KernelIdeal.Gen.facts, Cert.ReferenceIdeal.Gen.facts, Cert.Pre_separated.Gen.facts,
  kernel_frame, ideal_frame, fun m g _ => Cert.KernelIdeal.Energy.frame (F := Ideal) m g, reference_frame,
  fun m g _ => reference_frame m g trivial, trivial, same_energy⟩

end Cert.Proof

end
